-- ==== Defs.lean ====
def Pre_Matmul (m : (ℓ : Loc Cert.Matmul.nD Cert.Matmul.τ Cert.Matmul.sig) → Buf (Elt Bits) ℓ) : Prop :=
  True

def Pre_MatmulIdeal (m : (ℓ : Loc Cert.MatmulIdeal.nD Cert.MatmulIdeal.τ Cert.MatmulIdeal.sig) → Buf (Elt Ideal) ℓ) : Prop :=
  True

def Pre_MatmulIdeal_scales_normal [hPre_scales_normal : Cert.Pre_scales_normal.Facts] (m : (ℓ : Loc Cert.MatmulIdeal.nD Cert.MatmulIdeal.τ Cert.MatmulIdeal.sig) → Buf (Elt Ideal) ℓ) : Prop :=
  ∀ c : Dev Cert.MatmulIdeal.nD,
    (Cert.Pre_scales_normal.fn (F := Ideal) (m ((c.tc : Thread Cert.MatmulIdeal.nD Cert.MatmulIdeal.τ).loc Cert.MatmulIdeal.main_arg0)) (m ((c.tc : Thread Cert.MatmulIdeal.nD Cert.MatmulIdeal.τ).loc Cert.MatmulIdeal.main_arg1)) (m ((c.tc : Thread Cert.MatmulIdeal.nD Cert.MatmulIdeal.τ).loc Cert.MatmulIdeal.main_arg2))) = (fun _ => 1#1)

def Pre_MatmulRefIdeal (m : (ℓ : Loc Cert.MatmulRefIdeal.nD Cert.MatmulRefIdeal.τ Cert.MatmulRefIdeal.sig) → Buf (Elt Ideal) ℓ) : Prop :=
  True

def Pre_MatmulRefIdeal_scales_normal [hPre_scales_normal : Cert.Pre_scales_normal.Facts] (m : (ℓ : Loc Cert.MatmulRefIdeal.nD Cert.MatmulRefIdeal.τ Cert.MatmulRefIdeal.sig) → Buf (Elt Ideal) ℓ) : Prop :=
  ∀ c : Dev Cert.MatmulRefIdeal.nD,
    (Cert.Pre_scales_normal.fn (F := Ideal) (m ((c.tc : Thread Cert.MatmulRefIdeal.nD Cert.MatmulRefIdeal.τ).loc Cert.MatmulRefIdeal.main_arg0)) (m ((c.tc : Thread Cert.MatmulRefIdeal.nD Cert.MatmulRefIdeal.τ).loc Cert.MatmulRefIdeal.main_arg1)) (m ((c.tc : Thread Cert.MatmulRefIdeal.nD Cert.MatmulRefIdeal.τ).loc Cert.MatmulRefIdeal.main_arg2))) = (fun _ => 1#1)

def Pre_Quantise (m : (ℓ : Loc Cert.Quantise.nD Cert.Quantise.τ Cert.Quantise.sig) → Buf (Elt Bits) ℓ) : Prop :=
  True

def Pre_QuantiseIdeal (m : (ℓ : Loc Cert.QuantiseIdeal.nD Cert.QuantiseIdeal.τ Cert.QuantiseIdeal.sig) → Buf (Elt Ideal) ℓ) : Prop :=
  True

def Pre_QuantiseIdeal_groups_normal [hPre_groups_normal : Cert.Pre_groups_normal.Facts] (m : (ℓ : Loc Cert.QuantiseIdeal.nD Cert.QuantiseIdeal.τ Cert.QuantiseIdeal.sig) → Buf (Elt Ideal) ℓ) : Prop :=
  ∀ c : Dev Cert.QuantiseIdeal.nD,
    (Cert.Pre_groups_normal.fn (F := Ideal) (m ((c.tc : Thread Cert.QuantiseIdeal.nD Cert.QuantiseIdeal.τ).loc Cert.QuantiseIdeal.main_arg0))) = (fun _ => 1#1)

def Pre_QuantiseRefIdeal (m : (ℓ : Loc Cert.QuantiseRefIdeal.nD Cert.QuantiseRefIdeal.τ Cert.QuantiseRefIdeal.sig) → Buf (Elt Ideal) ℓ) : Prop :=
  True

def Pre_QuantiseRefIdeal_groups_normal [hPre_groups_normal : Cert.Pre_groups_normal.Facts] (m : (ℓ : Loc Cert.QuantiseRefIdeal.nD Cert.QuantiseRefIdeal.τ Cert.QuantiseRefIdeal.sig) → Buf (Elt Ideal) ℓ) : Prop :=
  ∀ c : Dev Cert.QuantiseRefIdeal.nD,
    (Cert.Pre_groups_normal.fn (F := Ideal) (m ((c.tc : Thread Cert.QuantiseRefIdeal.nD Cert.QuantiseRefIdeal.τ).loc Cert.QuantiseRefIdeal.main_arg0))) = (fun _ => 1#1)

def quiescent_Matmul [hMatmul : Cert.Matmul.Facts] : Prop :=
  ∀ (m : (ℓ : Loc Cert.Matmul.nD Cert.Matmul.τ Cert.Matmul.sig) → Buf (Elt Bits) ℓ) (g : Dev Cert.Matmul.nD → PrngReg), Pre_Matmul m →
    θ_run (Cert.Matmul.defs (F := Bits)) (onTc (τ := Cert.Matmul.τ) (Cert.Matmul.main (F := Bits))) ⟨m, fun _ => 0, g⟩ (fun r => (∀ c : Dev Cert.Matmul.nD,
      r.2.mem ((c.tc : Thread Cert.Matmul.nD Cert.Matmul.τ).loc Cert.Matmul.main_arg0) = m ((c.tc : Thread Cert.Matmul.nD Cert.Matmul.τ).loc Cert.Matmul.main_arg0)
      ∧ r.2.mem ((c.tc : Thread Cert.Matmul.nD Cert.Matmul.τ).loc Cert.Matmul.main_arg1) = m ((c.tc : Thread Cert.Matmul.nD Cert.Matmul.τ).loc Cert.Matmul.main_arg1)
      ∧ r.2.mem ((c.tc : Thread Cert.Matmul.nD Cert.Matmul.τ).loc Cert.Matmul.main_arg2) = m ((c.tc : Thread Cert.Matmul.nD Cert.Matmul.τ).loc Cert.Matmul.main_arg2))
      ∧ r.2.sem = fun _ => 0)

def quiescent_MatmulIdeal [hMatmulIdeal : Cert.MatmulIdeal.Facts] : Prop :=
  ∀ (m : (ℓ : Loc Cert.MatmulIdeal.nD Cert.MatmulIdeal.τ Cert.MatmulIdeal.sig) → Buf (Elt Ideal) ℓ) (g : Dev Cert.MatmulIdeal.nD → PrngReg), Pre_MatmulIdeal m →
    θ_run (Cert.MatmulIdeal.defs (F := Ideal)) (onTc (τ := Cert.MatmulIdeal.τ) (Cert.MatmulIdeal.main (F := Ideal))) ⟨m, fun _ => 0, g⟩ (fun r => (∀ c : Dev Cert.MatmulIdeal.nD,
      r.2.mem ((c.tc : Thread Cert.MatmulIdeal.nD Cert.MatmulIdeal.τ).loc Cert.MatmulIdeal.main_arg0) = m ((c.tc : Thread Cert.MatmulIdeal.nD Cert.MatmulIdeal.τ).loc Cert.MatmulIdeal.main_arg0)
      ∧ r.2.mem ((c.tc : Thread Cert.MatmulIdeal.nD Cert.MatmulIdeal.τ).loc Cert.MatmulIdeal.main_arg1) = m ((c.tc : Thread Cert.MatmulIdeal.nD Cert.MatmulIdeal.τ).loc Cert.MatmulIdeal.main_arg1)
      ∧ r.2.mem ((c.tc : Thread Cert.MatmulIdeal.nD Cert.MatmulIdeal.τ).loc Cert.MatmulIdeal.main_arg2) = m ((c.tc : Thread Cert.MatmulIdeal.nD Cert.MatmulIdeal.τ).loc Cert.MatmulIdeal.main_arg2))
      ∧ r.2.sem = fun _ => 0)

def quiescent_MatmulIdeal_pre_scales_normal [hMatmulIdeal : Cert.MatmulIdeal.Facts] [hPre_scales_normal : Cert.Pre_scales_normal.Facts] : Prop :=
  ∀ (m : (ℓ : Loc Cert.MatmulIdeal.nD Cert.MatmulIdeal.τ Cert.MatmulIdeal.sig) → Buf (Elt Ideal) ℓ) (g : Dev Cert.MatmulIdeal.nD → PrngReg), Pre_MatmulIdeal_scales_normal m →
    θ_run (Cert.MatmulIdeal.defs (F := Ideal)) (onTc (τ := Cert.MatmulIdeal.τ) (Cert.MatmulIdeal.main (F := Ideal))) ⟨m, fun _ => 0, g⟩ (fun r => (∀ c : Dev Cert.MatmulIdeal.nD,
      r.2.mem ((c.tc : Thread Cert.MatmulIdeal.nD Cert.MatmulIdeal.τ).loc Cert.MatmulIdeal.main_arg0) = m ((c.tc : Thread Cert.MatmulIdeal.nD Cert.MatmulIdeal.τ).loc Cert.MatmulIdeal.main_arg0)
      ∧ r.2.mem ((c.tc : Thread Cert.MatmulIdeal.nD Cert.MatmulIdeal.τ).loc Cert.MatmulIdeal.main_arg1) = m ((c.tc : Thread Cert.MatmulIdeal.nD Cert.MatmulIdeal.τ).loc Cert.MatmulIdeal.main_arg1)
      ∧ r.2.mem ((c.tc : Thread Cert.MatmulIdeal.nD Cert.MatmulIdeal.τ).loc Cert.MatmulIdeal.main_arg2) = m ((c.tc : Thread Cert.MatmulIdeal.nD Cert.MatmulIdeal.τ).loc Cert.MatmulIdeal.main_arg2))
      ∧ r.2.sem = fun _ => 0)

def quiescent_MatmulRefIdeal [hMatmulRefIdeal : Cert.MatmulRefIdeal.Facts] : Prop :=
  ∀ (m : (ℓ : Loc Cert.MatmulRefIdeal.nD Cert.MatmulRefIdeal.τ Cert.MatmulRefIdeal.sig) → Buf (Elt Ideal) ℓ) (g : Dev Cert.MatmulRefIdeal.nD → PrngReg), Pre_MatmulRefIdeal m →
    θ_run (Cert.MatmulRefIdeal.defs (F := Ideal)) (onTc (τ := Cert.MatmulRefIdeal.τ) (Cert.MatmulRefIdeal.main (F := Ideal))) ⟨m, fun _ => 0, g⟩ (fun r => (∀ c : Dev Cert.MatmulRefIdeal.nD,
      r.2.mem ((c.tc : Thread Cert.MatmulRefIdeal.nD Cert.MatmulRefIdeal.τ).loc Cert.MatmulRefIdeal.main_arg0) = m ((c.tc : Thread Cert.MatmulRefIdeal.nD Cert.MatmulRefIdeal.τ).loc Cert.MatmulRefIdeal.main_arg0)
      ∧ r.2.mem ((c.tc : Thread Cert.MatmulRefIdeal.nD Cert.MatmulRefIdeal.τ).loc Cert.MatmulRefIdeal.main_arg1) = m ((c.tc : Thread Cert.MatmulRefIdeal.nD Cert.MatmulRefIdeal.τ).loc Cert.MatmulRefIdeal.main_arg1)
      ∧ r.2.mem ((c.tc : Thread Cert.MatmulRefIdeal.nD Cert.MatmulRefIdeal.τ).loc Cert.MatmulRefIdeal.main_arg2) = m ((c.tc : Thread Cert.MatmulRefIdeal.nD Cert.MatmulRefIdeal.τ).loc Cert.MatmulRefIdeal.main_arg2))
      ∧ r.2.sem = fun _ => 0)

def quiescent_MatmulRefIdeal_pre_scales_normal [hMatmulRefIdeal : Cert.MatmulRefIdeal.Facts] [hPre_scales_normal : Cert.Pre_scales_normal.Facts] : Prop :=
  ∀ (m : (ℓ : Loc Cert.MatmulRefIdeal.nD Cert.MatmulRefIdeal.τ Cert.MatmulRefIdeal.sig) → Buf (Elt Ideal) ℓ) (g : Dev Cert.MatmulRefIdeal.nD → PrngReg), Pre_MatmulRefIdeal_scales_normal m →
    θ_run (Cert.MatmulRefIdeal.defs (F := Ideal)) (onTc (τ := Cert.MatmulRefIdeal.τ) (Cert.MatmulRefIdeal.main (F := Ideal))) ⟨m, fun _ => 0, g⟩ (fun r => (∀ c : Dev Cert.MatmulRefIdeal.nD,
      r.2.mem ((c.tc : Thread Cert.MatmulRefIdeal.nD Cert.MatmulRefIdeal.τ).loc Cert.MatmulRefIdeal.main_arg0) = m ((c.tc : Thread Cert.MatmulRefIdeal.nD Cert.MatmulRefIdeal.τ).loc Cert.MatmulRefIdeal.main_arg0)
      ∧ r.2.mem ((c.tc : Thread Cert.MatmulRefIdeal.nD Cert.MatmulRefIdeal.τ).loc Cert.MatmulRefIdeal.main_arg1) = m ((c.tc : Thread Cert.MatmulRefIdeal.nD Cert.MatmulRefIdeal.τ).loc Cert.MatmulRefIdeal.main_arg1)
      ∧ r.2.mem ((c.tc : Thread Cert.MatmulRefIdeal.nD Cert.MatmulRefIdeal.τ).loc Cert.MatmulRefIdeal.main_arg2) = m ((c.tc : Thread Cert.MatmulRefIdeal.nD Cert.MatmulRefIdeal.τ).loc Cert.MatmulRefIdeal.main_arg2))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ r.2.sem = fun _ => 0)

def quiescent_QuantiseIdeal_pre_groups_normal [hQuantiseIdeal : Cert.QuantiseIdeal.Facts] [hPre_groups_normal : Cert.Pre_groups_normal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal_groups_normal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ r.2.sem = fun _ => 0)

def quiescent_QuantiseRefIdeal [hQuantiseRefIdeal : Cert.QuantiseRefIdeal.Facts] : Prop :=
  ∀ (m : (ℓ : Loc Cert.QuantiseRefIdeal.nD Cert.QuantiseRefIdeal.τ Cert.QuantiseRefIdeal.sig) → Buf (Elt Ideal) ℓ) (g : Dev Cert.QuantiseRefIdeal.nD → PrngReg), Pre_QuantiseRefIdeal m →
    θ_run (Cert.QuantiseRefIdeal.defs (F := Ideal)) (onTc (τ := Cert.QuantiseRefIdeal.τ) (Cert.QuantiseRefIdeal.main (F := Ideal))) ⟨m, fun _ => 0, g⟩ (fun r => (∀ c : Dev Cert.QuantiseRefIdeal.nD,
      r.2.mem ((c.tc : Thread Cert.QuantiseRefIdeal.nD Cert.QuantiseRefIdeal.τ).loc Cert.QuantiseRefIdeal.main_arg0) = m ((c.tc : Thread Cert.QuantiseRefIdeal.nD Cert.QuantiseRefIdeal.τ).loc Cert.QuantiseRefIdeal.main_arg0))
      ∧ r.2.sem = fun _ => 0)

def quiescent_QuantiseRefIdeal_pre_groups_normal [hQuantiseRefIdeal : Cert.QuantiseRefIdeal.Facts] [hPre_groups_normal : Cert.Pre_groups_normal.Facts] : Prop :=
  ∀ (m : (ℓ : Loc Cert.QuantiseRefIdeal.nD Cert.QuantiseRefIdeal.τ Cert.QuantiseRefIdeal.sig) → Buf (Elt Ideal) ℓ) (g : Dev Cert.QuantiseRefIdeal.nD → PrngReg), Pre_QuantiseRefIdeal_groups_normal m →
    θ_run (Cert.QuantiseRefIdeal.defs (F := Ideal)) (onTc (τ := Cert.QuantiseRefIdeal.τ) (Cert.QuantiseRefIdeal.main (F := Ideal))) ⟨m, fun _ => 0, g⟩ (fun r => (∀ c : Dev Cert.QuantiseRefIdeal.nD,
      r.2.mem ((c.tc : Thread Cert.QuantiseRefIdeal.nD Cert.QuantiseRefIdeal.τ).loc Cert.QuantiseRefIdeal.main_arg0) = m ((c.tc : Thread Cert.QuantiseRefIdeal.nD Cert.QuantiseRefIdeal.τ).loc Cert.QuantiseRefIdeal.main_arg0))
      ∧ r.2.sem = fun _ => 0)

def preserves_Matmul_MatmulIdeal : Prop :=
  True

def algebraic_MatmulIdeal_MatmulRefIdeal_pre_scales_normal [hMatmulIdeal : Cert.MatmulIdeal.Facts] [hMatmulRefIdeal : Cert.MatmulRefIdeal.Facts] [hPre_scales_normal : Cert.Pre_scales_normal.Facts] : Prop :=
  ∀ (m : (ℓ : Loc Cert.MatmulIdeal.nD Cert.MatmulIdeal.τ Cert.MatmulIdeal.sig) → Buf (Elt Ideal) ℓ) (g : Dev Cert.MatmulIdeal.nD → PrngReg)
    (m' : (ℓ : Loc Cert.MatmulRefIdeal.nD Cert.MatmulRefIdeal.τ Cert.MatmulRefIdeal.sig) → Buf (Elt Ideal) ℓ) (g' : Dev Cert.MatmulRefIdeal.nD → PrngReg), Pre_MatmulIdeal_scales_normal m →
    (∀ c : Dev Cert.MatmulIdeal.nD,
      m' ((c.tc : Thread Cert.MatmulRefIdeal.nD Cert.MatmulRefIdeal.τ).loc Cert.MatmulRefIdeal.main_arg0) = m ((c.tc : Thread Cert.MatmulIdeal.nD Cert.MatmulIdeal.τ).loc Cert.MatmulIdeal.main_arg0)
      ∧ m' ((c.tc : Thread Cert.MatmulRefIdeal.nD Cert.MatmulRefIdeal.τ).loc Cert.MatmulRefIdeal.main_arg1) = m ((c.tc : Thread Cert.MatmulIdeal.nD Cert.MatmulIdeal.τ).loc Cert.MatmulIdeal.main_arg1)
      ∧ m' ((c.tc : Thread Cert.MatmulRefIdeal.nD Cert.MatmulRefIdeal.τ).loc Cert.MatmulRefIdeal.main_arg2) = m ((c.tc : Thread Cert.MatmulIdeal.nD Cert.MatmulIdeal.τ).loc Cert.MatmulIdeal.main_arg2)) →
    ∃ (v0 : (c : Dev Cert.MatmulIdeal.nD) → Buf (Elt Ideal) ((c.tc : Thread Cert.MatmulIdeal.nD Cert.MatmulIdeal.τ).loc Cert.MatmulIdeal.main_v0)),
      θ_run (Cert.MatmulIdeal.defs (F := Ideal)) (onTc (τ := Cert.MatmulIdeal.τ) (Cert.MatmulIdeal.main (F := Ideal))) ⟨m, fun _ => 0, g⟩ (fun r => ∀ c : Dev Cert.MatmulIdeal.nD,
          r.2.mem ((c.tc : Thread Cert.MatmulIdeal.nD Cert.MatmulIdeal.τ).loc Cert.MatmulIdeal.main_v0) = v0 c
          ∧ r.2.mem ((c.tc : Thread Cert.MatmulIdeal.nD Cert.MatmulIdeal.τ).loc Cert.MatmulIdeal.main_arg0) = m ((c.tc : Thread Cert.MatmulIdeal.nD Cert.MatmulIdeal.τ).loc Cert.MatmulIdeal.main_arg0)
          ∧ r.2.mem ((c.tc : Thread Cert.MatmulIdeal.nD Cert.MatmulIdeal.τ).loc Cert.MatmulIdeal.main_arg1) = m ((c.tc : Thread Cert.MatmulIdeal.nD Cert.MatmulIdeal.τ).loc Cert.MatmulIdeal.main_arg1)
          ∧ r.2.mem ((c.tc : Thread Cert.MatmulIdeal.nD Cert.MatmulIdeal.τ).loc Cert.MatmulIdeal.main_arg2) = m ((c.tc : Thread Cert.MatmulIdeal.nD Cert.MatmulIdeal.τ).loc Cert.MatmulIdeal.main_arg2))
      ∧ θ_run (Cert.MatmulRefIdeal.defs (F := Ideal)) (onTc (τ := Cert.MatmulRefIdeal.τ) (Cert.MatmulRefIdeal.main (F := Ideal))) ⟨m', fun _ => 0, g'⟩ (fun r => ∀ c : Dev Cert.MatmulRefIdeal.nD,
          r.2.mem ((c.tc : Thread Cert.MatmulRefIdeal.nD Cert.MatmulRefIdeal.τ).loc Cert.MatmulRefIdeal.main_v17) = v0 c
          ∧ r.2.mem ((c.tc : Thread Cert.MatmulRefIdeal.nD Cert.MatmulRefIdeal.τ).loc Cert.MatmulRefIdeal.main_arg0) = m' ((c.tc : Thread Cert.MatmulRefIdeal.nD Cert.MatmulRefIdeal.τ).loc Cert.MatmulRefIdeal.main_arg0)
          ∧ r.2.mem ((c.tc : Thread Cert.MatmulRefIdeal.nD Cert.MatmulRefIdeal.τ).loc Cert.MatmulRefIdeal.main_arg1) = m' ((c.tc : Thread Cert.MatmulRefIdeal.nD Cert.MatmulRefIdeal.τ).loc Cert.MatmulRefIdeal.main_arg1)
          ∧ r.2.mem ((c.tc : Thread Cert.MatmulRefIdeal.nD Cert.MatmulRefIdeal.τ).loc Cert.MatmulRefIdeal.main_arg2) = m' ((c.tc : Thread Cert.MatmulRefIdeal.nD Cert.MatmulRefIdeal.τ).loc Cert.MatmulRefIdeal.main_arg2))

def preserves_Quantise_QuantiseIdeal : Prop :=
  True

def algebraic_QuantiseIdeal_QuantiseRefIdeal_pre_groups_normal [hQuantiseIdeal : Cert.QuantiseIdeal.Facts] [hQuantiseRefIdeal : Cert.QuantiseRefIdeal.Facts] [hPre_groups_normal : Cert.Pre_groups_normal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.QuantiseRefIdeal.nD Cert.QuantiseRefIdeal.τ Cert.QuantiseRefIdeal.sig) → Buf (Elt Ideal) ℓ) (g' : Dev Cert.QuantiseRefIdeal.nD → PrngReg), Pre_QuantiseIdeal_groups_normal m →
    (∀ c : Dev Cert.QuantiseIdeal.nD,
      m' ((c.tc : Thread Cert.QuantiseRefIdeal.nD Cert.QuantiseRefIdeal.τ).loc Cert.QuantiseRefIdeal.main_arg0) = m ((c.tc : Thread Cert.QuantiseIdeal.nD Cert.QuantiseIdeal.τ).loc Cert.QuantiseIdeal.main_arg0)) →
    ∃ (v0 : (c : Dev Cert.QuantiseIdeal.nD) → Buf (Elt Ideal) ((c.tc : Thread Cert.QuantiseIdeal.nD Cert.QuantiseIdeal.τ).loc Cert.QuantiseIdeal.main_v30_0)) (v1 : (c : Dev Cert.QuantiseIdeal.nD) → Buf (Elt Ideal) ((c.tc : Thread Cert.QuantiseIdeal.nD Cert.QuantiseIdeal.τ).loc Cert.QuantiseIdeal.main_v30_1)) (v2 : (c : Dev Cert.QuantiseIdeal.nD) → Buf (Elt Ideal) ((c.tc : Thread Cert.QuantiseIdeal.nD Cert.QuantiseIdeal.τ).loc Cert.QuantiseIdeal.main_v30_2)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v30_0) = v0 c
          ∧ r.2.mem ((c.tc : Thread Cert.QuantiseIdeal.nD Cert.QuantiseIdeal.τ).loc Cert.QuantiseIdeal.main_v30_1) = v1 c
          ∧ r.2.mem ((c.tc : Thread Cert.QuantiseIdeal.nD Cert.QuantiseIdeal.τ).loc Cert.QuantiseIdeal.main_v30_2) = v2 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ θ_run (Cert.QuantiseRefIdeal.defs (F := Ideal)) (onTc (τ := Cert.QuantiseRefIdeal.τ) (Cert.QuantiseRefIdeal.main (F := Ideal))) ⟨m', fun _ => 0, g'⟩ (fun r => ∀ c : Dev Cert.QuantiseRefIdeal.nD,
          r.2.mem ((c.tc : Thread Cert.QuantiseRefIdeal.nD Cert.QuantiseRefIdeal.τ).loc Cert.QuantiseRefIdeal.main_v26_0) = v0 c
          ∧ r.2.mem ((c.tc : Thread Cert.QuantiseRefIdeal.nD Cert.QuantiseRefIdeal.τ).loc Cert.QuantiseRefIdeal.main_v31) = v1 c
          ∧ r.2.mem ((c.tc : Thread Cert.QuantiseRefIdeal.nD Cert.QuantiseRefIdeal.τ).loc Cert.QuantiseRefIdeal.main_v37) = v2 c
          ∧ r.2.mem ((c.tc : Thread Cert.QuantiseRefIdeal.nD Cert.QuantiseRefIdeal.τ).loc Cert.QuantiseRefIdeal.main_arg0) = m' ((c.tc : Thread Cert.QuantiseRefIdeal.nD Cert.QuantiseRefIdeal.τ).loc Cert.QuantiseRefIdeal.main_arg0))

def Claim : Prop :=
  ∃ (hMatmul : Cert.Matmul.Facts) (hMatmulIdeal : Cert.MatmulIdeal.Facts) (hMatmulRefIdeal : Cert.MatmulRefIdeal.Facts) (hQuantise : Cert.Quantise.Facts) (hQuantiseIdeal : Cert.QuantiseIdeal.Facts) (hQuantiseRefIdeal : Cert.QuantiseRefIdeal.Facts) (hPre_scales_normal : Cert.Pre_scales_normal.Facts) (hPre_groups_normal : Cert.Pre_groups_normal.Facts),
    quiescent_Matmul (hMatmul := hMatmul)
    ∧ quiescent_MatmulIdeal (hMatmulIdeal := hMatmulIdeal)
    ∧ quiescent_MatmulIdeal_pre_scales_normal (hMatmulIdeal := hMatmulIdeal) (hPre_scales_normal := hPre_scales_normal)
    ∧ quiescent_MatmulRefIdeal (hMatmulRefIdeal := hMatmulRefIdeal)
    ∧ quiescent_MatmulRefIdeal_pre_scales_normal (hMatmulRefIdeal := hMatmulRefIdeal) (hPre_scales_normal := hPre_scales_normal)
    ∧ quiescent_Quantise (hQuantise := hQuantise)
    ∧ quiescent_QuantiseIdeal (hQuantiseIdeal := hQuantiseIdeal)
    ∧ quiescent_QuantiseIdeal_pre_groups_normal (hQuantiseIdeal := hQuantiseIdeal) (hPre_groups_normal := hPre_groups_normal)
    ∧ quiescent_QuantiseRefIdeal (hQuantiseRefIdeal := hQuantiseRefIdeal)
    ∧ quiescent_QuantiseRefIdeal_pre_groups_normal (hQuantiseRefIdeal := hQuantiseRefIdeal) (hPre_groups_normal := hPre_groups_normal)
    ∧ preserves_Matmul_MatmulIdeal
    ∧ algebraic_MatmulIdeal_MatmulRefIdeal_pre_scales_normal (hMatmulIdeal := hMatmulIdeal) (hMatmulRefIdeal := hMatmulRefIdeal) (hPre_scales_normal := hPre_scales_normal)
    ∧ preserves_Quantise_QuantiseIdeal
    ∧ algebraic_QuantiseIdeal_QuantiseRefIdeal_pre_groups_normal (hQuantiseIdeal := hQuantiseIdeal) (hQuantiseRefIdeal := hQuantiseRefIdeal) (hPre_groups_normal := hPre_groups_normal)
-- ==== Pre_groups_normal.lean ====
abbrev S6144x16384 : Shape := ⟨2, ![6144, 16384]⟩
abbrev S6144x512x32 : Shape := ⟨3, ![6144, 512, 32]⟩
abbrev S_ : Shape := ⟨0, ![]⟩
abbrev S6144x512 : Shape := ⟨2, ![6144, 512]⟩

class Facts : Prop where
  shapeCasts_S6144x16384_S6144x512x32 : S6144x16384.ShapeCasts S6144x512x32
  bitsLt_bf16_f32 : FTy.bits .bf16 < FTy.bits .f32
  reducesTo_S6144x512x32_S6144x512_d2 : S6144x512x32.ReducesTo [2] S6144x512
  h_S_ : 0 < S_.numel
  bcast_S_S6144x512 : S_.BroadcastsInDim S6144x512 (![] : Fin 0 → Fin S6144x512.rank)

variable [Facts]

def fn {F : FTy → Type} [FloatOps F] (main_arg0 : FVec F S6144x16384 .bf16) : IVec S6144x512 1 :=
  let main_v0 : FVec F S6144x512x32 .bf16 := shapeCast S6144x512x32 main_arg0 shapeCasts_S6144x16384_S6144x512x32
  let main_v1 : FVec F S6144x512x32 .f32 := (extf .f32 · bitsLt_bf16_f32) main_v0
  let main_v2 : FVec F S6144x512x32 .f32 := Host.absf main_v1
  let main_cst : FVec F S_ .f32 := constant S_ .f32 0xFF800000#32
  let main_v3 : FVec F S6144x512 .f32 := (fun x v => Host.reduce FloatOps.maximumf x v reducesTo_S6144x512x32_S6144x512_d2 h_S_) main_v2 main_cst
  let main_cst_0 : FVec F S_ .f32 := constant S_ .f32 0x3B124925#32
  let main_v4 : FVec F S6144x512 .f32 := broadcastInDim S6144x512 ![] bcast_S_S6144x512 main_cst_0
  let main_v5 : FVec F S6144x512 .f32 := mulf main_v3 main_v4
  let main_cst_1 : FVec F S_ .f32 := constant S_ .f32 0x00000000#32
  let main_v6 : FVec F S6144x512 .f32 := broadcastInDim S6144x512 ![] bcast_S_S6144x512 main_cst_1
  let main_v7 : IVec S6144x512 1 := cmpf .oeq main_v3 main_v6
  let main_cst_2 : FVec F S_ .f32 := constant S_ .f32 0x00800000#32
  let main_v8 : FVec F S6144x512 .f32 := broadcastInDim S6144x512 ![] bcast_S_S6144x512 main_cst_2
  let main_v9 : IVec S6144x512 1 := cmpf .oge main_v5 main_v8
  let main_cst_3 : FVec F S_ .f32 := constant S_ .f32 0x7E800000#32
  let main_v10 : FVec F S6144x512 .f32 := broadcastInDim S6144x512 ![] bcast_S_S6144x512 main_cst_3
  let main_v11 : IVec S6144x512 1 := cmpf .olt main_v5 main_v10
  let main_v12 : IVec S6144x512 1 := andi main_v9 main_v11
  let main_v13 : IVec S6144x512 1 := ori main_v7 main_v12
  main_v13
-- ==== Pre_scales_normal.lean ====
abbrev S6144x16384 : Shape := ⟨2, ![6144, 16384]⟩
abbrev S16384x7168 : Shape := ⟨2, ![16384, 7168]⟩
abbrev S512x7168 : Shape := ⟨2, ![512, 7168]⟩
abbrev S_ : Shape := ⟨0, ![]⟩

class Facts : Prop where
  natLt_8_32 : 8 < 32
  bcast_S_S512x7168 : S_.BroadcastsInDim S512x7168 (![] : Fin 0 → Fin S512x7168.rank)

variable [Facts]

def fn {F : FTy → Type} [FloatOps F] (main_arg0 : FVec F S6144x16384 .bf16) (main_arg1 : FVec F S16384x7168 .fp8e4m3) (main_arg2 : IVec S512x7168 8) : IVec S512x7168 1 :=
  let main_v0 : IVec S512x7168 32 := (extui 32 · natLt_8_32) main_arg2
  let main_c : IVec S_ 32 := constantI S_ 32 0#32
  let main_v1 : IVec S512x7168 32 := broadcastInDim S512x7168 ![] bcast_S_S512x7168 main_c
  let main_v2 : IVec S512x7168 1 := cmpi .sgt main_v0 main_v1
  let main_c_0 : IVec S_ 32 := constantI S_ 32 255#32
  let main_v3 : IVec S512x7168 32 := broadcastInDim S512x7168 ![] bcast_S_S512x7168 main_c_0
  let main_v4 : IVec S512x7168 1 := cmpi .slt main_v0 main_v3
  let main_v5 : IVec S512x7168 1 := andi main_v2 main_v4
  main_v5
-- ==== Matmul.lean ====
abbrev S6144x16384 : Shape := ⟨2, ![6144, 16384]⟩
abbrev S16384x7168 : Shape := ⟨2, ![16384, 7168]⟩
abbrev S512x7168 : Shape := ⟨2, ![512, 7168]⟩
abbrev S6x1024x7168 : Shape := ⟨3, ![6, 1024, 7168]⟩
abbrev S1024x2048 : Shape := ⟨2, ![1024, 2048]⟩
abbrev S2048x1792 : Shape := ⟨2, ![2048, 1792]⟩
abbrev S64x1792 : Shape := ⟨2, ![64, 1792]⟩
abbrev S1x1024x1792 : Shape := ⟨3, ![1, 1024, 1792]⟩
abbrev S1024x1792 : Shape := ⟨2, ![1024, 1792]⟩
abbrev S64x1x1792 : Shape := ⟨3, ![64, 1, 1792]⟩
abbrev S64x32x1792 : Shape := ⟨3, ![64, 32, 1792]⟩

abbrev nBuf : Space → Nat
  | .hbm => 4
  | .vmem => 10
  | .smem => 0
  | _ => 0

abbrev bufTy : (tb : Table) → Fin (tcTables nBuf tb) → BufTy
  | .hbm, ⟨0, _⟩ => ⟨S6144x16384, .bf16⟩
  | .hbm, ⟨1, _⟩ => ⟨S16384x7168, .fp8e4m3⟩
  | .hbm, ⟨2, _⟩ => ⟨S512x7168, .i8⟩
  | .hbm, ⟨3, _⟩ => ⟨S6x1024x7168, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1792, .fp8e4m3⟩
  | .local _ .vmem, ⟨3, _⟩ => ⟨S2048x1792, .fp8e4m3⟩
  | .local _ .vmem, ⟨4, _⟩ => ⟨S64x1792, .i8⟩
  | .local _ .vmem, ⟨5, _⟩ => ⟨S64x1792, .i8⟩
  | .local _ .vmem, ⟨6, _⟩ => ⟨S1x1024x1792, .bf16⟩
  | .local _ .vmem, ⟨7, _⟩ => ⟨S1x1024x1792, .bf16⟩
  | .local _ .vmem, ⟨8, _⟩ => ⟨S2048x1792, .bf16⟩
  | .local _ .vmem, ⟨9, _⟩ => ⟨S1024x1792, .f32⟩
  | _, _ => ⟨S6144x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 4, 8], ![false, false, false]⟩

def k0_cond2 (i : grid0.Coords) : BitVec 1 :=
  let arg2 : BitVec 32 := BitVec.ofNat 32 (i 2).val
  let c7_i32 : BitVec 32 := 7#32
  let v27 : BitVec 1 := Scalar.cmpi .eq arg2 c7_i32
  let v28 : BitVec 32 := Scalar.extui v27
  let c0_i32_14 : BitVec 32 := 0#32
  let v29 : BitVec 1 := Scalar.cmpi .ne v28 c0_i32_14
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1792 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S64x1792 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MatmulRefIdeal.lean ====
abbrev S6144x16384 : Shape := ⟨2, ![6144, 16384]⟩
abbrev S16384x7168 : Shape := ⟨2, ![16384, 7168]⟩
abbrev S512x7168 : Shape := ⟨2, ![512, 7168]⟩
abbrev S6144x512x32 : Shape := ⟨3, ![6144, 512, 32]⟩
abbrev S512x6144x32 : Shape := ⟨3, ![512, 6144, 32]⟩
abbrev S512x32x7168 : Shape := ⟨3, ![512, 32, 7168]⟩
abbrev S512x6144x7168 : Shape := ⟨3, ![512, 6144, 7168]⟩
abbrev S_ : Shape := ⟨0, ![]⟩
abbrev S512x1x7168 : Shape := ⟨3, ![512, 1, 7168]⟩
abbrev S6144x7168 : Shape := ⟨2, ![6144, 7168]⟩
abbrev S6x1024x7168 : Shape := ⟨3, ![6, 1024, 7168]⟩

abbrev nBuf : Space → Nat
  | .hbm => 24
  | .vmem => 2
  | .smem => 0
  | _ => 0

abbrev bufTy : (tb : Table) → Fin (tcTables nBuf tb) → BufTy
  | .hbm, ⟨0, _⟩ => ⟨S6144x16384, .bf16⟩
  | .hbm, ⟨1, _⟩ => ⟨S16384x7168, .fp8e4m3⟩
  | .hbm, ⟨2, _⟩ => ⟨S512x7168, .i8⟩
  | .hbm, ⟨3, _⟩ => ⟨S6144x16384, .f32⟩
  | .hbm, ⟨4, _⟩ => ⟨S6144x512x32, .f32⟩
  | .hbm, ⟨5, _⟩ => ⟨S512x6144x32, .f32⟩
  | .hbm, ⟨6, _⟩ => ⟨S16384x7168, .f32⟩
  | .hbm, ⟨7, _⟩ => ⟨S512x32x7168, .f32⟩
  | .hbm, ⟨8, _⟩ => ⟨S512x6144x7168, .f32⟩
  | .hbm, ⟨9, _⟩ => ⟨S_, .f32⟩
  | .hbm, ⟨10, _⟩ => ⟨S512x7168, .f32⟩
  | .hbm, ⟨11, _⟩ => ⟨S512x7168, .i32⟩
  | .hbm, ⟨12, _⟩ => ⟨S512x7168, .f32⟩
  | .hbm, ⟨13, _⟩ => ⟨S_, .f32⟩
  | .hbm, ⟨14, _⟩ => ⟨S512x7168, .f32⟩
  | .hbm, ⟨15, _⟩ => ⟨S512x7168, .f32⟩
  | .hbm, ⟨16, _⟩ => ⟨S512x7168, .f32⟩
  | .hbm, ⟨17, _⟩ => ⟨S512x1x7168, .f32⟩
  | .hbm, ⟨18, _⟩ => ⟨S512x6144x7168, .f32⟩
  | .hbm, ⟨19, _⟩ => ⟨S512x6144x7168, .f32⟩
  | .hbm, ⟨20, _⟩ => ⟨S_, .f32⟩
  | .hbm, ⟨21, _⟩ => ⟨S6144x7168, .f32⟩
  | .hbm, ⟨22, _⟩ => ⟨S6144x7168, .bf16⟩
  | .hbm, ⟨23, _⟩ => ⟨S6x1024x7168, .bf16⟩
  | .local _ .vmem, ⟨0, _⟩ => ⟨S16384x7168, .fp8e4m3⟩
  | .local _ .vmem, ⟨1, _⟩ => ⟨S16384x7168, .f32⟩
  | _, _ => ⟨S6144x16384, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16384x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Quantise.lean ====
abbrev S6144x16384 : Shape := ⟨2, ![6144, 16384]⟩
abbrev S128 : Shape := ⟨1, ![128]⟩
abbrev S_ : Shape := ⟨0, ![]⟩
abbrev S4096 : Shape := ⟨1, ![4096]⟩
abbrev S128x1 : Shape := ⟨2, ![128, 1]⟩
abbrev S1x4096 : Shape := ⟨2, ![1, 4096]⟩
abbrev S128x4096 : Shape := ⟨2, ![128, 4096]⟩
abbrev S1x128 : Shape := ⟨2, ![1, 128]⟩
abbrev S128x128 : Shape := ⟨2, ![128, 128]⟩
abbrev S6144x512 : Shape := ⟨2, ![6144, 512]⟩
abbrev S256x4096 : Shape := ⟨2, ![256, 4096]⟩
abbrev S256x128 : Shape := ⟨2, ![256, 128]⟩

abbrev nBuf : Space → Nat
  | .hbm => 128
  | .vmem => 10
  | .smem => 0
  | _ => 0

abbrev bufTy : (tb : Table) → Fin (tcTables nBuf tb) → BufTy
  | .hbm, ⟨0, _⟩ => ⟨S6144x16384, .bf16⟩
  | .hbm, ⟨1, _⟩ => ⟨S128, .i32⟩
  | .hbm, ⟨2, _⟩ => ⟨S_, .i32⟩
  | .hbm, ⟨3, _⟩ => ⟨S_, .i32⟩
  | .hbm, ⟨4, _⟩ => ⟨S128, .i32⟩
  | .hbm, ⟨5, _⟩ => ⟨S128, .i32⟩
  | .hbm, ⟨6, _⟩ => ⟨S128, .i32⟩
  | .hbm, ⟨7, _⟩ => ⟨S_, .i32⟩
  | .hbm, ⟨8, _⟩ => ⟨S128, .i32⟩
  | .hbm, ⟨9, _⟩ => ⟨S128, .i1⟩
  | .hbm, ⟨10, _⟩ => ⟨S128, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S128, .i1⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S_, .i32⟩
  | .hbm, ⟨32, _⟩ => ⟨S128, .i32⟩
  | .hbm, ⟨33, _⟩ => ⟨S128, .i1⟩
  | .hbm, ⟨34, _⟩ => ⟨S_, .i32⟩
  | .hbm, ⟨35, _⟩ => ⟨S_, .i1⟩
  | .hbm, ⟨36, _⟩ => ⟨S128, .i1⟩
  | .hbm, ⟨37, _⟩ => ⟨S128, .i1⟩
  | .hbm, ⟨38, _⟩ => ⟨S128, .i1⟩
  | .hbm, ⟨39, _⟩ => ⟨S128, .i32⟩
  | .hbm, ⟨40, _⟩ => ⟨S128, .i32⟩
  | .hbm, ⟨41, _⟩ => ⟨S128, .i32⟩
  | .hbm, ⟨42, _⟩ => ⟨S4096, .i32⟩
  | .hbm, ⟨43, _⟩ => ⟨S128x1, .i32⟩
  | .hbm, ⟨44, _⟩ => ⟨S1x4096, .i32⟩
  | .hbm, ⟨45, _⟩ => ⟨S_, .i32⟩
  | .hbm, ⟨46, _⟩ => ⟨S_, .i32⟩
  | .hbm, ⟨47, _⟩ => ⟨S1x4096, .i32⟩
  | .hbm, ⟨48, _⟩ => ⟨S1x4096, .i32⟩
  | .hbm, ⟨49, _⟩ => ⟨S1x4096, .i32⟩
  | .hbm, ⟨50, _⟩ => ⟨S_, .i32⟩
  | .hbm, ⟨51, _⟩ => ⟨S1x4096, .i32⟩
  | .hbm, ⟨52, _⟩ => ⟨S1x4096, .i1⟩
  | .hbm, ⟨53, _⟩ => ⟨S1x4096, .i32⟩
  | .hbm, ⟨54, _⟩ => ⟨S1x4096, .i32⟩
  | .hbm, ⟨55, _⟩ => ⟨S_, .i32⟩
  | .hbm, ⟨56, _⟩ => ⟨S1x4096, .i32⟩
  | .hbm, ⟨57, _⟩ => ⟨S1x4096, .i1⟩
  | .hbm, ⟨58, _⟩ => ⟨S1x4096, .i1⟩
  | .hbm, ⟨59, _⟩ => ⟨S_, .i32⟩
  | .hbm, ⟨60, _⟩ => ⟨S1x4096, .i32⟩
  | .hbm, ⟨61, _⟩ => ⟨S1x4096, .i32⟩
  | .hbm, ⟨62, _⟩ => ⟨S1x4096, .i32⟩
  | .hbm, ⟨63, _⟩ => ⟨S128x4096, .i32⟩
  | .hbm, ⟨64, _⟩ => ⟨S128x4096, .i32⟩
  | .hbm, ⟨65, _⟩ => ⟨S128x4096, .i1⟩
  | .hbm, ⟨66, _⟩ => ⟨S128x1, .i32⟩
  | .hbm, ⟨67, _⟩ => ⟨S1x4096, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i1⟩
  | .hbm, ⟨72, _⟩ => ⟨S_, .i32⟩
  | .hbm, ⟨73, _⟩ => ⟨S_, .i32⟩
  | .hbm, ⟨74, _⟩ => ⟨S1x4096, .i32⟩
  | .hbm, ⟨75, _⟩ => ⟨S1x4096, .i32⟩
  | .hbm, ⟨76, _⟩ => ⟨S_, .i32⟩
  | .hbm, ⟨77, _⟩ => ⟨S1x4096, .i32⟩
  | .hbm, ⟨78, _⟩ => ⟨S1x4096, .i1⟩
  | .hbm, ⟨79, _⟩ => ⟨S_, .i32⟩
  | .hbm, ⟨80, _⟩ => ⟨S1x4096, .i32⟩
  | .hbm, ⟨81, _⟩ => ⟨S1x4096, .i1⟩
  | .hbm, ⟨82, _⟩ => ⟨S_, .i32⟩
  | .hbm, ⟨83, _⟩ => ⟨S_, .i1⟩
  | .hbm, ⟨84, _⟩ => ⟨S1x4096, .i1⟩
  | .hbm, ⟨85, _⟩ => ⟨S1x4096, .i1⟩
  | .hbm, ⟨86, _⟩ => ⟨S1x4096, .i1⟩
  | .hbm, ⟨87, _⟩ => ⟨S1x4096, .i32⟩
  | .hbm, ⟨88, _⟩ => ⟨S1x4096, .i32⟩
  | .hbm, ⟨89, _⟩ => ⟨S1x4096, .i32⟩
  | .hbm, ⟨90, _⟩ => ⟨S_, .i32⟩
  | .hbm, ⟨91, _⟩ => ⟨S_, .i32⟩
  | .hbm, ⟨92, _⟩ => ⟨S1x4096, .i32⟩
  | .hbm, ⟨93, _⟩ => ⟨S1x4096, .i32⟩
  | .hbm, ⟨94, _⟩ => ⟨S1x4096, .i32⟩
  | .hbm, ⟨95, _⟩ => ⟨S_, .i32⟩
  | .hbm, ⟨96, _⟩ => ⟨S1x4096, .i32⟩
  | .hbm, ⟨97, _⟩ => ⟨S1x4096, .i1⟩
  | .hbm, ⟨98, _⟩ => ⟨S1x4096, .i32⟩
  | .hbm, ⟨99, _⟩ => ⟨S1x4096, .i32⟩
  | .hbm, ⟨100, _⟩ => ⟨S_, .i32⟩
  | .hbm, ⟨101, _⟩ => ⟨S1x4096, .i32⟩
  | .hbm, ⟨102, _⟩ => ⟨S1x4096, .i1⟩
  | .hbm, ⟨103, _⟩ => ⟨S1x4096, .i1⟩
  | .hbm, ⟨104, _⟩ => ⟨S_, .i32⟩
  | .hbm, ⟨105, _⟩ => ⟨S1x4096, .i32⟩
  | .hbm, ⟨106, _⟩ => ⟨S1x4096, .i32⟩
  | .hbm, ⟨107, _⟩ => ⟨S1x4096, .i32⟩
  | .hbm, ⟨108, _⟩ => ⟨S128x4096, .i32⟩
  | .hbm, ⟨109, _⟩ => ⟨S128x4096, .i32⟩
  | .hbm, ⟨110, _⟩ => ⟨S128x4096, .i1⟩
  | .hbm, ⟨111, _⟩ => ⟨S128x4096, .i1⟩
  | .hbm, ⟨112, _⟩ => ⟨S_, .i32⟩
  | .hbm, ⟨113, _⟩ => ⟨S128, .i32⟩
  | .hbm, ⟨114, _⟩ => ⟨S128, .i32⟩
  | .hbm, ⟨115, _⟩ => ⟨S128, .i32⟩
  | .hbm, ⟨116, _⟩ => ⟨S128x1, .i32⟩
  | .hbm, ⟨117, _⟩ => ⟨S1x128, .i32⟩
  | .hbm, ⟨118, _⟩ => ⟨S128x128, .i32⟩
  | .hbm, ⟨119, _⟩ => ⟨S128x128, .i32⟩
  | .hbm, ⟨120, _⟩ => ⟨S128x128, .i1⟩
  | .hbm, ⟨121, _⟩ => ⟨S128x4096, .f32⟩
  | .hbm, ⟨122, _⟩ => ⟨S128x128, .f32⟩
  | .hbm, ⟨123, _⟩ => ⟨S128x4096, .bf16⟩
  | .hbm, ⟨124, _⟩ => ⟨S128x128, .bf16⟩
  | .hbm, ⟨125, _⟩ => ⟨S6144x16384, .fp8e4m3⟩
  | .hbm, ⟨126, _⟩ => ⟨S6144x512, .i8⟩
  | .hbm, ⟨127, _⟩ => ⟨S6144x16384, .bf16⟩
  | .local _ .vmem, ⟨0, _⟩ => ⟨S256x4096, .bf16⟩
  | .local _ .vmem, ⟨1, _⟩ => ⟨S256x4096, .bf16⟩
  | .local _ .vmem, ⟨2, _⟩ => ⟨S128x4096, .bf16⟩
  | .local _ .vmem, ⟨3, _⟩ => ⟨S128x128, .bf16⟩
  | .local _ .vmem, ⟨4, _⟩ => ⟨S256x4096, .fp8e4m3⟩
  | .local _ .vmem, ⟨5, _⟩ => ⟨S256x4096, .fp8e4m3⟩
  | .local _ .vmem, ⟨6, _⟩ => ⟨S256x128, .i8⟩
  | .local _ .vmem, ⟨7, _⟩ => ⟨S256x128, .i8⟩
  | .local _ .vmem, ⟨8, _⟩ => ⟨S256x4096, .bf16⟩
  | .local _ .vmem, ⟨9, _⟩ => ⟨S256x4096, .bf16⟩
  | _, _ => ⟨S6144x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v1 : Ref sig .tc := ⟨.hbm, 19, rfl⟩
abbrev main_c_0 : Ref sig .tc := ⟨.hbm, 20, rfl⟩
abbrev main_call1_v0 : Ref sig .tc := ⟨.hbm, 21, rfl⟩
abbrev main_call1_c : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_c_1 : Ref sig .tc := ⟨.hbm, 28, rfl⟩
abbrev main_call1_v5 : Ref sig .tc := ⟨.hbm, 29, rfl⟩
abbrev main_call1_v6 : Ref sig .tc := ⟨.hbm, 30, rfl⟩
abbrev main_call1_c_2 : Ref sig .tc := ⟨.hbm, 31, rfl⟩
abbrev main_call1_v7 : Ref sig .tc := ⟨.hbm, 32, rfl⟩
abbrev main_call1_v8 : Ref sig .tc := ⟨.hbm, 33, rfl⟩
abbrev main_call1_c_3 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_v12 : Ref sig .tc := ⟨.hbm, 38, rfl⟩
abbrev main_call1_v13 : Ref sig .tc := ⟨.hbm, 39, rfl⟩
abbrev main_call1_v14 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_c_1 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_c : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_0 : Ref sig .tc := ⟨.hbm, 59, rfl⟩
abbrev main_call2_v12 : Ref sig .tc := ⟨.hbm, 60, rfl⟩
abbrev main_call2_v13 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_c_2 : Ref sig .tc := ⟨.hbm, 68, rfl⟩
abbrev main_call3_v0 : Ref sig .tc := ⟨.hbm, 69, rfl⟩
abbrev main_call3_c : Ref sig .tc := ⟨.hbm, 70, rfl⟩
abbrev main_call3_v1 : Ref sig .tc := ⟨.hbm, 71, rfl⟩
abbrev main_call3_c_0 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_c_1 : Ref sig .tc := ⟨.hbm, 76, rfl⟩
abbrev main_call3_v5 : Ref sig .tc := ⟨.hbm, 77, rfl⟩
abbrev main_call3_v6 : Ref sig .tc := ⟨.hbm, 78, rfl⟩
abbrev main_call3_c_2 : Ref sig .tc := ⟨.hbm, 79, rfl⟩
abbrev main_call3_v7 : Ref sig .tc := ⟨.hbm, 80, rfl⟩
abbrev main_call3_v8 : Ref sig .tc := ⟨.hbm, 81, rfl⟩
abbrev main_call3_c_3 : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_v12 : Ref sig .tc := ⟨.hbm, 86, rfl⟩
abbrev main_call3_v13 : Ref sig .tc := ⟨.hbm, 87, rfl⟩
abbrev main_call3_v14 : Ref sig .tc := ⟨.hbm, 88, rfl⟩
abbrev main_v12 : Ref sig .tc := ⟨.hbm, 89, rfl⟩
abbrev main_c_3 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_call4_v5 : Ref sig .tc := ⟨.hbm, 96, rfl⟩
abbrev main_call4_v6 : Ref sig .tc := ⟨.hbm, 97, rfl⟩
abbrev main_call4_v7 : Ref sig .tc := ⟨.hbm, 98, rfl⟩
abbrev main_call4_v8 : Ref sig .tc := ⟨.hbm, 99, rfl⟩
abbrev main_call4_c : Ref sig .tc := ⟨.hbm, 100, rfl⟩
abbrev main_call4_v9 : Ref sig .tc := ⟨.hbm, 101, rfl⟩
abbrev main_call4_v10 : Ref sig .tc := ⟨.hbm, 102, rfl⟩
abbrev main_call4_v11 : Ref sig .tc := ⟨.hbm, 103, rfl⟩
abbrev main_call4_c_0 : Ref sig .tc := ⟨.hbm, 104, rfl⟩
abbrev main_call4_v12 : Ref sig .tc := ⟨.hbm, 105, rfl⟩
abbrev main_call4_v13 : Ref sig .tc := ⟨.hbm, 106, rfl⟩
abbrev main_v13 : Ref sig .tc := ⟨.hbm, 107, rfl⟩
abbrev main_v14 : Ref sig .tc := ⟨.hbm, 108, rfl⟩
abbrev main_v15 : Ref sig .tc := ⟨.hbm, 109, rfl⟩
abbrev main_v16 : Ref sig .tc := ⟨.hbm, 110, rfl⟩
abbrev main_v17 : Ref sig .tc := ⟨.hbm, 111, rfl⟩
abbrev main_c_4 : Ref sig .tc := ⟨.hbm, 112, rfl⟩
abbrev main_v18 : Ref sig .tc := ⟨.hbm, 113, rfl⟩
abbrev main_v19 : Ref sig .tc := ⟨.hbm, 114, rfl⟩
abbrev main_v20 : Ref sig .tc := ⟨.hbm, 115, rfl⟩
abbrev main_v21 : Ref sig .tc := ⟨.hbm, 116, rfl⟩
abbrev main_v22 : Ref sig .tc := ⟨.hbm, 117, rfl⟩
abbrev main_v23 : Ref sig .tc := ⟨.hbm, 118, rfl⟩
abbrev main_v24 : Ref sig .tc := ⟨.hbm, 119, rfl⟩
abbrev main_v25 : Ref sig .tc := ⟨.hbm, 120, rfl⟩
abbrev main_v26 : Ref sig .tc := ⟨.hbm, 121, rfl⟩
abbrev main_v27 : Ref sig .tc := ⟨.hbm, 122, rfl⟩
abbrev main_v28 : Ref sig .tc := ⟨.hbm, 123, rfl⟩
abbrev main_v29 : Ref sig .tc := ⟨.hbm, 124, rfl⟩
abbrev main_v30_0 : Ref sig .tc := ⟨.hbm, 125, rfl⟩
abbrev main_v30_1 : Ref sig .tc := ⟨.hbm, 126, rfl⟩
abbrev main_v30_2 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![24, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QuantiseRefIdeal.lean ====
abbrev S6144x16384 : Shape := ⟨2, ![6144, 16384]⟩
abbrev S6144x512x32 : Shape := ⟨3, ![6144, 512, 32]⟩
abbrev S_ : Shape := ⟨0, ![]⟩
abbrev S6144x512 : Shape := ⟨2, ![6144, 512]⟩
abbrev S6144x512x1 : Shape := ⟨3, ![6144, 512, 1]⟩

abbrev nBuf : Space → Nat
  | .hbm => 62
  | .vmem => 3
  | .smem => 0
  | _ => 0

abbrev bufTy : (tb : Table) → Fin (tcTables nBuf tb) → BufTy
  | .hbm, ⟨0, _⟩ => ⟨S6144x16384, .bf16⟩
  | .hbm, ⟨1, _⟩ => ⟨S6144x512x32, .bf16⟩
  | .hbm, ⟨2, _⟩ => ⟨S6144x512x32, .f32⟩
  | .hbm, ⟨3, _⟩ => ⟨S6144x512x32, .f32⟩
  | .hbm, ⟨4, _⟩ => ⟨S_, .f32⟩
  | .hbm, ⟨5, _⟩ => ⟨S6144x512, .f32⟩
  | .hbm, ⟨6, _⟩ => ⟨S6144x512x1, .f32⟩
  | .hbm, ⟨7, _⟩ => ⟨S_, .f32⟩
  | .hbm, ⟨8, _⟩ => ⟨S6144x512x1, .f32⟩
  | .hbm, ⟨9, _⟩ => ⟨S6144x512x1, .f32⟩
  | .hbm, ⟨10, _⟩ => ⟨S6144x512x1, .f32⟩
  | .hbm, ⟨11, _⟩ => ⟨S_, .f32⟩
  | .hbm, ⟨12, _⟩ => ⟨S6144x512x1, .f32⟩
  | .hbm, ⟨13, _⟩ => ⟨S6144x512x1, .f32⟩
  | .hbm, ⟨14, _⟩ => ⟨S6144x512x1, .f32⟩
  | .hbm, ⟨15, _⟩ => ⟨S6144x512x1, .f32⟩
  | .hbm, ⟨16, _⟩ => ⟨S_, .f32⟩
  | .hbm, ⟨17, _⟩ => ⟨S6144x512x1, .f32⟩
  | .hbm, ⟨18, _⟩ => ⟨S6144x512x1, .f32⟩
  | .hbm, ⟨19, _⟩ => ⟨S_, .f32⟩
  | .hbm, ⟨20, _⟩ => ⟨S6144x512x1, .f32⟩
  | .hbm, ⟨21, _⟩ => ⟨S6144x512x1, .i1⟩
  | .hbm, ⟨22, _⟩ => ⟨S_, .f32⟩
  | .hbm, ⟨23, _⟩ => ⟨S6144x512x1, .f32⟩
  | .hbm, ⟨24, _⟩ => ⟨S6144x512x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S6144x512x1, .f32⟩
  | .hbm, ⟨29, _⟩ => ⟨S6144x512x1, .f32⟩
  | .hbm, ⟨30, _⟩ => ⟨S_, .f32⟩
  | .hbm, ⟨31, _⟩ => ⟨S6144x512x1, .f32⟩
  | .hbm, ⟨32, _⟩ => ⟨S6144x512x1, .f32⟩
  | .hbm, ⟨33, _⟩ => ⟨S_, .f32⟩
  | .hbm, ⟨34, _⟩ => ⟨S6144x512x1, .f32⟩
  | .hbm, ⟨35, _⟩ => ⟨S6144x512x1, .f32⟩
  | .hbm, ⟨36, _⟩ => ⟨S6144x512x1, .f32⟩
  | .hbm, ⟨37, _⟩ => ⟨S6144x512x32, .f32⟩
  | .hbm, ⟨38, _⟩ => ⟨S6144x512x32, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S6144x512x32, .f32⟩
  | .hbm, ⟨43, _⟩ => ⟨S6144x512x32, .f32⟩
  | .hbm, ⟨44, _⟩ => ⟨S_, .f32⟩
  | .hbm, ⟨45, _⟩ => ⟨S6144x512x32, .f32⟩
  | .hbm, ⟨46, _⟩ => ⟨S6144x512x32, .f32⟩
  | .hbm, ⟨47, _⟩ => ⟨S6144x16384, .f32⟩
  | .hbm, ⟨48, _⟩ => ⟨S6144x16384, .fp8e4m3⟩
  | .hbm, ⟨49, _⟩ => ⟨S6144x16384, .f32⟩
  | .hbm, ⟨50, _⟩ => ⟨S6144x512x1, .i32⟩
  | .hbm, ⟨51, _⟩ => ⟨S_, .i32⟩
  | .hbm, ⟨52, _⟩ => ⟨S6144x512x1, .i32⟩
  | .hbm, ⟨53, _⟩ => ⟨S6144x512x1, .i32⟩
  | .hbm, ⟨54, _⟩ => ⟨S6144x512, .i32⟩
  | .hbm, ⟨55, _⟩ => ⟨S6144x512, .i8⟩
  | .hbm, ⟨56, _⟩ => ⟨S6144x512x32, .f32⟩
  | .hbm, ⟨57, _⟩ => ⟨S6144x512x1, .f32⟩
  | .hbm, ⟨58, _⟩ => ⟨S6144x512x32, .f32⟩
  | .hbm, ⟨59, _⟩ => ⟨S6144x512x32, .f32⟩
  | .hbm, ⟨60, _⟩ => ⟨S6144x512x32, .bf16⟩
  | .hbm, ⟨61, _⟩ => ⟨S6144x16384, .bf16⟩
  | .local _ .vmem, ⟨0, _⟩ => ⟨S6144x16384, .f32⟩
  | .local _ .vmem, ⟨1, _⟩ => ⟨S6144x16384, .fp8e4m3⟩
  | .local _ .vmem, ⟨2, _⟩ => ⟨S6144x16384, .f32⟩
  | _, _ => ⟨S6144x16384, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_cst_4 : Ref sig .tc := ⟨.hbm, 22, rfl⟩
abbrev main_v16 : Ref sig .tc := ⟨.hbm, 23, rfl⟩
abbrev main_v17 : Ref sig .tc := ⟨.hbm, 24, rfl⟩
abbrev main_cst_5 : Ref sig .tc := ⟨.hbm, 25, rfl⟩
abbrev main_cst_6 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_8 : Ref sig .tc := ⟨.hbm, 39, rfl⟩
abbrev main_cst_9 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v24 : Ref sig .tc := ⟨.hbm, 46, rfl⟩
abbrev main_v25 : Ref sig .tc := ⟨.hbm, 47, rfl⟩
abbrev main_v26_0 : Ref sig .tc := ⟨.hbm, 48, rfl⟩
abbrev main_v26_1 : Ref sig .tc := ⟨.hbm, 49, rfl⟩
abbrev main_v27 : Ref sig .tc := ⟨.hbm, 50, rfl⟩
abbrev main_c : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S6144x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Block.lean ====
/- What one grid point of the matmul leaves behind, as values: the carried accumulator and, at the last point of a
   run of eight, the output block.  The stores found by the run cover their buffers, so reading the buffer back gives
   the last payload stored; the loads read whole buffers. -/
module

public import proofs.«01_k».proof.Proof.Gen.MatmulIdeal.Value
public import Idealize.ShloMosaic.Lib.Tactic

@[expose] public section

noncomputable section

open Idealize.ShloMosaic Idealize.ShloMosaic.TcCoe Idealize.SL.Sem

namespace Cert.MatmulIdeal.Block

open Cert.MatmulIdeal Cert.MatmulIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One step of the accumulator: the old contents plus the block product of the activations with the dequantised
    weights. -/
abbrev step (x0 : Vec F S1024x2048 .bf16) (x1 : Vec F S2048x1792 .fp8e4m3) (x2 : Vec F S64x1792 .i8)
    (acc : Vec F S1024x1792 .f32) : Vec F S1024x1792 .f32 :=
  k0_pay3 acc x0 (k0_pay1 x2 x1)

section
variable (c : Dev nD) (i : grid0.Coords) (a3 : Memref sig .tc .vmem S1024x2048 .bf16) (h3 : a3.IsWhole)
  (a4 : Memref sig .tc .vmem S2048x1792 .fp8e4m3) (h4 : a4.IsWhole) (a5 : Memref sig .tc .vmem S64x1792 .i8)
  (h5 : a5.IsWhole) (a6 : Memref sig .tc .vmem S1x1024x1792 .bf16) (h6 : a6.IsWhole)
  (a7 : Memref sig .tc .vmem S2048x1792 .bf16) (h7 : a7.IsWhole) (a8 : Memref sig .tc .vmem S1024x1792 .f32)
  (h8 : a8.IsWhole)
  (x0 : Vec F S1024x2048 .bf16) (x1 : Vec F S2048x1792 .fp8e4m3) (x2 : Vec F S64x1792 .i8) (acc : Vec F S1024x1792 .f32)

/-- A middle point adds its block product to what the accumulator held. -/
theorem sout_B (hc0 : ¬cond0_0 i) (hc1 : ¬cond0_1 i) :
    sout0_B_1 c i a3 h3 a4 h4 a5 h5 a6 h6 a7 h7 a8 h8 hc0 hc1 x0 x1 x2 acc = step x0 x1 x2 acc := by
  unfold sout0_B_1
  rw [View.read_writes_eq_canon _ _ _ (scover0_B_1 c i a3 h3 a4 h4 a5 h5 a6 h6 a7 h7 a8 h8 hc0 hc1 x0 x1 x2 acc)]
  unfold kernelRun0_B
  dsimp only
  sl_unfold_words
  rw [View.canon_unit_zero hz2]
  simp only [View.readCov_unit_zero (S := S2048x1792) _ hz2, View.readAt_eq_ld, h3.read_unread, h4.read_unread, h5.read_unread, h8.read_unread,
    View.ld_unit_zero (S := S1024x1792) hz2, View.ld_unit_zero (S := S1024x2048) hz2,
    View.ld_unit_zero (S := S2048x1792) hz2, View.ld_unit_zero (S := S64x1792) hz2]

/-- The first point of a run adds its block product to zeros. -/
theorem sout_A (hc0 : cond0_0 i) (hc1 : ¬cond0_1 i) :
    sout0_A_1 c i a3 h3 a4 h4 a5 h5 a6 h6 a7 h7 a8 h8 hc0 hc1 x0 x1 x2 = step x0 x1 x2 (k0_pay2 (F := F)) := by
  unfold sout0_A_1
  rw [View.read_writes_eq_canon _ _ _ (scover0_A_1 c i a3 h3 a4 h4 a5 h5 a6 h6 a7 h7 a8 h8 hc0 hc1 x0 x1 x2)]
  unfold kernelRun0_A
  dsimp only
  sl_unfold_words
  rw [View.canon_cons_unit_zero (S := S1024x1792) hz2]
  simp only [View.readCov_unit_zero (S := S2048x1792) _ hz2, View.readCov_unit_zero (S := S1024x1792) _ hz2,
    View.readAt_eq_ld, h3.read_unread, h4.read_unread, h5.read_unread, h8.read_unread,
    View.ld_unit_zero (S := S1024x1792) hz2, View.ld_unit_zero (S := S1024x2048) hz2,
    View.ld_unit_zero (S := S2048x1792) hz2, View.ld_unit_zero (S := S64x1792) hz2]

/-- The last point of a run writes out its accumulator, rounded to the output's type. -/
theorem out_C (hc0 : ¬cond0_0 i) (hc1 : cond0_1 i) :
    out0_C_3 c i a3 h3 a4 h4 a5 h5 a6 h6 a7 h7 a8 h8 hc0 hc1 x0 x1 x2 acc = k0_pay4 (step x0 x1 x2 acc) := by
  unfold out0_C_3
  rw [View.read_writes_eq_canon _ _ _ (cover0_C_3 c i a3 h3 a4 h4 a5 h5 a6 h6 a7 h7 a8 h8 hc0 hc1 x0 x1 x2 acc)]
  unfold kernelRun0_C
  dsimp only
  sl_unfold_words
  rw [View.canon_unit_zero hz3]
  simp only [View.readCov_unit_zero (S := S2048x1792) _ hz2, View.readCov_unit_zero (S := S1024x1792) _ hz2,
    View.readAt_eq_ld, h3.read_unread, h4.read_unread, h5.read_unread, h8.read_unread,
    View.ld_unit_zero (S := S1024x1792) hz2, View.ld_unit_zero (S := S1024x2048) hz2,
    View.ld_unit_zero (S := S2048x1792) hz2, View.ld_unit_zero (S := S64x1792) hz2]

end

end Cert.MatmulIdeal.Block

end
-- ==== Proof.Element.lean ====
/- The matmul's step read at one element, over the extended reals: the accumulator's element plus a sum of 2048
   products of an activation with a dequantised weight. -/
module

public import proofs.«01_k».proof.Proof.Block
public import Idealize.ShloMosaic.Lib.ValueIdx
public import Idealize.ShloMosaic.PureOps.Ideal.Laws
public import Idealize.ShloMosaic.Lib.MatmulPlain

@[expose] public section

noncomputable section

open Idealize.ShloMosaic Idealize.ShloMosaic.TcCoe Idealize.SL.Sem Idealize.ShloMosaic.ValueIdx
open scoped BigOperators

namespace Cert.MatmulIdeal.Element

open Cert.MatmulIdeal Cert.MatmulIdeal.Gen Cert.MatmulIdeal.Block

/-- The scale a scale byte stands for in the kernel: the byte moved into a float's exponent field. -/
def scale (s : BitVec 8) : EReal := Ideal.ofBits .f32 ((s.setWidth 32) <<< 23)

/-- A dequantised weight: the code times the scale of its group of 32 rows. -/
theorem weight_apply (x2 : Vec Ideal S64x1792 .i8) (x1 : Vec Ideal S2048x1792 .fp8e4m3) (k : Fin 2048) (n : Fin 1792) :
    (k0_pay1 x2 x1 (ix2 k n) : EReal)
      = x1 (ix2 k n) * scale (x2 (ix2 (⟨k.val / 32, by omega⟩ : Fin 64) n)) := by
  unfold k0_pay1
  rw [shapeCast_self]
  rw [mulf_apply]
  refine congrArg (x1 (ix2 k n) * ·) ?_
  rw [shapeCast_apply (t := S2048x1792) _ shapeCasts_S64x32x1792_S2048x1792 (ix2 k n) (ix3 (⟨k.val / 32, by omega⟩ : Fin 64) (⟨k.val % 32, by omega⟩ : Fin 32) n)
    (by rewrite [Shape.rowMajor_val_three, Shape.rowMajor_val_two]; show (k.val / 32 * 32 + k.val % 32) * 1792 + n.val = k.val * 1792 + n.val; omega)]
  rw [broadcastTo_apply (t := S64x32x1792) _ broadcasts_S64x1x1792_S64x32x1792 _ (ix3 (⟨k.val / 32, by omega⟩ : Fin 64) (0 : Fin 1) n)
    (fun a => match a with
      | ⟨0, _⟩ => by show k.val / 32 = if (64 : Nat) = 1 then 0 else k.val / 32; rw [if_neg (by decide)]
      | ⟨1, _⟩ => by show 0 = if (1 : Nat) = 1 then 0 else _; rw [if_pos rfl]
      | ⟨2, _⟩ => by show n.val = if (1792 : Nat) = 1 then 0 else n.val; rw [if_neg (by decide)])]
  rw [shapeCast_self]
  rw [shapeCast_apply (t := S64x1x1792) _ shapeCasts_S64x1792_S64x1x1792 _ (ix2 (⟨k.val / 32, by omega⟩ : Fin 64) n)
    (by rewrite [Shape.rowMajor_val_three, Shape.rowMajor_val_two]; show k.val / 32 * 1792 + n.val = (k.val / 32 * 1 + 0) * 1792 + n.val; omega)]
  rfl

/-- The step at an element. -/
theorem step_apply (x0 : Vec Ideal S1024x2048 .bf16) (x1 : Vec Ideal S2048x1792 .fp8e4m3) (x2 : Vec Ideal S64x1792 .i8)
    (acc : Vec Ideal S1024x1792 .f32) (r : Fin 1024) (n : Fin 1792) :
    (step x0 x1 x2 acc (ix2 r n) : EReal)
      = acc (ix2 r n) + ∑ k : Fin 2048, x0 (ix2 r k) * (x1 (ix2 k n) * scale (x2 (ix2 (⟨k.val / 32, by omega⟩ : Fin 64) n))) := by
  have e : (step x0 x1 x2 acc (ix2 r n) : EReal)
      = acc (ix2 r n) + FloatOps.matmul (F := Ideal) (φ₁ := .bf16) (φ₂ := .bf16) (DotDims.plain 1024 2048 1792) none x0 (k0_pay1 x2 x1) (constant S1024x1792 .f32 0x00000000#32) (ix2 r n) := by
    unfold step k0_pay3
    rw [shapeCast_self]
    rfl
  rw [e, Ideal.matmul_plain_apply]
  refine congrArg (acc (ix2 r n) + ·) ?_
  rw [show (constant (F := Ideal) S1024x1792 .f32 0x00000000#32 (ix2 r n) : EReal) = 0 from Ideal.ofBits_zero_f32, zero_add]
  exact Finset.sum_congr rfl fun k _ => by rw [weight_apply]

/-- The zeros a run starts from. -/
theorem zero_apply (j : S1024x1792.Idx) : (k0_pay2 (F := Ideal) j : EReal) = 0 := by
  unfold k0_pay2
  rw [shapeCast_self]
  exact Ideal.ofBits_zero_f32

/-- Writing out drops nothing over the extended reals: element (0, r, n) of the block is element (r, n). -/
theorem out_apply (v : Vec Ideal S1024x1792 .f32) (r : Fin 1024) (n : Fin 1792) :
    (k0_pay4 v (ix3 (0 : Fin 1) r n) : EReal) = v (ix2 r n) := by
  unfold k0_pay4
  rw [shapeCast_apply (t := S1x1024x1792) _ shapeCasts_S1024x1792_S1x1024x1792 _ (ix2 r n)
    (by rewrite [Shape.rowMajor_val_three, Shape.rowMajor_val_two]; show r.val * 1792 + n.val = (0 * 1024 + r.val) * 1792 + n.val; omega)]
  rfl

end Cert.MatmulIdeal.Element

end
-- ==== Proof.Sums.lean ====
/- Sums over the extended reals: a sum over rows as a double sum over blocks, and a sum scaled by a positive real. -/
module

public import Mathlib.Data.EReal.Inv
public import Mathlib.Data.EReal.Operations
public import Mathlib.Algebra.BigOperators.Fin
public import Mathlib.Logic.Equiv.Fin.Basic
public import Mathlib.Algebra.BigOperators.Group.Finset.Basic

@[expose] public section

open scoped BigOperators

namespace Cert.Sums

/-- A sum over `m * n` positions is the sum over `m` blocks of the sums over each block's `n` positions. -/
theorem sum_blocks {M : Type*} [AddCommMonoid M] (m n : ℕ) (f : Fin (m * n) → M) :
    ∑ i : Fin (m * n), f i
      = ∑ a : Fin m, ∑ b : Fin n, f ⟨n * a.val + b.val, by
          have h1 := a.isLt; have h2 := b.isLt
          calc n * a.val + b.val < n * a.val + n := by omega
            _ = n * (a.val + 1) := by ring
            _ ≤ n * m := Nat.mul_le_mul_left _ h1
            _ = m * n := Nat.mul_comm _ _⟩ := by
  rw [← Equiv.sum_comp finProdFinEquiv f, Fintype.sum_prod_type]
  refine Finset.sum_congr rfl fun a _ => Finset.sum_congr rfl fun b _ => congrArg f (Fin.ext ?_)
  show b.val + n * a.val = n * a.val + b.val
  omega

/-- Multiplying by a nonnegative real distributes over a finite sum of extended reals. -/
theorem sum_mul {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.mpr hr) (EReal.coe_ne_top r), ih]

end Cert.Sums
-- ==== Proof.Array.lean ====
/- What the matmul's result array ends holding, element by element, over the extended reals: the eight grid points
   of a run each add the product over their 2048 columns, so the element is the sum over all 16384 columns. -/
module

public import proofs.«01_k».proof.Proof.Element
public import proofs.«01_k».proof.Proof.Sums
public import proofs.«01_k».proof.Proof.Gen.MatmulIdeal.Value

@[expose] public section

noncomputable section

open Idealize.ShloMosaic Idealize.ShloMosaic.TcCoe Idealize.SL.Sem Idealize.ShloMosaic.ValueIdx
open scoped BigOperators

namespace Cert.MatmulIdeal.Array

open Cert.MatmulIdeal Cert.MatmulIdeal.Gen Cert.MatmulIdeal.Block Cert.MatmulIdeal.Element Cert.MatmulIdeal.Value

variable (m : (ℓ : Loc nD τ sig) → Buf (Elt Ideal) ℓ) (c : Dev nD)

/-- Which blocks a grid point reads: point `t` has row block `t / 32`, column block `t / 8 % 4`, depth block `t % 8`. -/
theorem idx_in : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = t.val % 8 ∧ win0_2.index t (1 : Fin 2) = t.val / 8 % 4 :=
  (by decide +kernel : ∀ t : Fin grid0.N, _)

/-- The arrays the call reads. -/
abbrev X : Vec Ideal S6144x16384 .bf16 := m ((c : Thread nD τ).loc main_arg0)
abbrev W : Vec Ideal S16384x7168 .fp8e4m3 := m ((c : Thread nD τ).loc main_arg1)
abbrev S : Vec Ideal S512x7168 .i8 := m ((c : Thread nD τ).loc main_arg2)

theorem lt192 (t : Fin cfg0.N) : t.val < 192 := lt_of_lt_of_eq t.isLt N_0

/-- The blocks a grid point reads. -/
abbrev xb (t : Fin cfg0.N) : Vec Ideal S1024x2048 .bf16 := iblk m c 0 t
abbrev wb (t : Fin cfg0.N) : Vec Ideal S2048x1792 .fp8e4m3 := iblk m c 1 t
abbrev sb (t : Fin cfg0.N) : Vec Ideal S64x1792 .i8 := iblk m c 2 t

/-- A point's block of activations, read off the array. -/
theorem blk0 (t : Fin cfg0.N) (r : Fin 1024) (k : Fin 2048) :
    (xb m c t) (ix2 r k)
      = X m c (ix2 (⟨1024 * (t.val / 32) + r.val, by have := lt192 t; omega⟩ : Fin 6144)
          (⟨2048 * (t.val % 8) + k.val, by omega⟩ : Fin 16384)) := by
  obtain ⟨e0, e1, -⟩ := idx_in t
  unfold xb iblk
  rw [View.read_apply]
  show m (c.tc.loc main_arg0) _ = m (c.tc.loc main_arg0) _
  refine congrArg _ (funext fun a => Fin.ext ?_)
  match a with
  | ⟨0, _⟩ => show win0_0.index t 0 * 1024 + 1 * r.val = 1024 * (t.val / 32) + r.val; rw [e0]; omega
  | ⟨1, _⟩ => show win0_0.index t 1 * 2048 + 1 * k.val = 2048 * (t.val % 8) + k.val; rw [e1]; omega

/-- A point's block of weight codes. -/
theorem blk1 (t : Fin cfg0.N) (k : Fin 2048) (n : Fin 1792) :
    (wb m c t) (ix2 k n)
      = W m c (ix2 (⟨2048 * (t.val % 8) + k.val, by omega⟩ : Fin 16384)
          (⟨1792 * (t.val / 8 % 4) + n.val, by omega⟩ : Fin 7168)) := by
  obtain ⟨-, -, e0, e1, -⟩ := idx_in t
  unfold wb iblk
  rw [View.read_apply]
  show m (c.tc.loc main_arg1) _ = m (c.tc.loc main_arg1) _
  refine congrArg _ (funext fun a => Fin.ext ?_)
  match a with
  | ⟨0, _⟩ => show win0_1.index t 0 * 2048 + 1 * k.val = 2048 * (t.val % 8) + k.val; rw [e0]; omega
  | ⟨1, _⟩ => show win0_1.index t 1 * 1792 + 1 * n.val = 1792 * (t.val / 8 % 4) + n.val; rw [e1]; omega

/-- A point's block of weight scales. -/
theorem blk2 (t : Fin cfg0.N) (g : Fin 64) (n : Fin 1792) :
    (sb m c t) (ix2 g n)
      = S m c (ix2 (⟨64 * (t.val % 8) + g.val, by omega⟩ : Fin 512)
          (⟨1792 * (t.val / 8 % 4) + n.val, by omega⟩ : Fin 7168)) := by
  obtain ⟨-, -, -, -, e0, e1⟩ := idx_in t
  unfold sb iblk
  rw [View.read_apply]
  show m (c.tc.loc main_arg2) _ = m (c.tc.loc main_arg2) _
  refine congrArg _ (funext fun a => Fin.ext ?_)
  match a with
  | ⟨0, _⟩ => show win0_2.index t 0 * 64 + 1 * g.val = 64 * (t.val % 8) + g.val; rw [e0]; omega
  | ⟨1, _⟩ => show win0_2.index t 1 * 1792 + 1 * n.val = 1792 * (t.val / 8 % 4) + n.val; rw [e1]; omega

/-- One product of the contraction: activation times dequantised weight, at row `i`, depth `k`, column `n`. -/
def term (i : Fin 6144) (n : Fin 7168) (k : Fin 16384) : EReal :=
  (X m c (ix2 i k) : EReal) * ((W m c (ix2 k n) : EReal) * scale (S m c (ix2 (⟨k.val / 32, by omega⟩ : Fin 512) n)))

/-- What point `n` adds to element `i` of the accumulator. -/
def addend (n : ℕ) (i : S1024x1792.Idx) : EReal :=
  if h : n < cfg0.N then
    ∑ k : Fin 2048, (xb m c ⟨n, h⟩ (ix2 (i 0) k) : EReal)
      * ((wb m c ⟨n, h⟩ (ix2 k (i 1)) : EReal)
        * scale ((sb m c ⟨n, h⟩) (ix2 (⟨k.val / 32, by omega⟩ : Fin 64) (i 1))))
  else 0

theorem step_addend (t : Fin cfg0.N) (acc : Vec Ideal S1024x1792 .f32) (i : S1024x1792.Idx) :
    (step (iblk m c 0 t) (iblk m c 1 t) (iblk m c 2 t) acc i : EReal) = acc i + addend m c t.val i := by
  unfold addend
  rw [dif_pos t.isLt]
  obtain ⟨r, n, rfl⟩ : ∃ (r : Fin 1024) (n : Fin 1792), i = ix2 r n := ⟨i 0, i 1, eq_ix2 i⟩
  exact step_apply _ _ _ _ r n

/-- The accumulator after point `8 q + j`, `j < 7`: the sum of what the points of the run added so far. -/
theorem scratch_eq (t : Fin cfg0.N) (ht : t.val % 8 ≤ 6) (i : S1024x1792.Idx) :
    ((outsAt0 m c t.val t.isLt).2 i : EReal)
      = ∑ s ∈ Finset.range (t.val % 8 + 1), addend m c (8 * (t.val / 8) + s) i := by
  rw [soutsAt0_1_eq]
  rw [Pipeline.accAt_add_apply (β := EReal) _ _ (fun _ => 0) (addend m c) (8 * (t.val / 8)) 6 ?ha ?hg (t.val % 8) ht, zero_add]
  case ha =>
    intro h i
    have h0 : (8 * (t.val / 8)) % 8 = 0 := by omega
    have h1 : ¬(8 * (t.val / 8)) % 8 = 7 := by omega
    unfold scAt0_1
    rw [dif_pos h0, dif_neg h1, sout_A]
    rw [step_addend m c ⟨8 * (t.val / 8), h⟩, zero_apply]
  case hg =>
    intro n h acc i hb he
    have h0 : ¬n % 8 = 0 := by omega
    have h1 : ¬n % 8 = 7 := by omega
    unfold scAt0_1
    rw [dif_neg h0, dif_neg h1, sout_B]
    exact step_addend m c ⟨n, h⟩ acc i

/-- What the last point of a run writes out: the sum of what the run's eight points added. -/
theorem out_eq (t : Fin cfg0.N) (ht : t.val % 8 = 7) (r : Fin 1024) (n : Fin 1792) :
    ((outsAt0 m c t.val t.isLt).1 (ix3 (0 : Fin 1) r n) : EReal)
      = ∑ s ∈ Finset.range 8, addend m c (8 * (t.val / 8) + s) (ix2 r n) := by
  have h0 : ¬t.val % 8 = 0 := by omega
  rw [outsAt0_C m c t h0 ht]
  dsimp only
  rw [out_C, out_apply, step_addend, Finset.sum_range_succ]
  have hlt : t.val - 1 < cfg0.N := lt_of_le_of_lt (Nat.sub_le _ _) t.isLt
  have e := scratch_eq m c ⟨t.val - 1, hlt⟩ (by show (t.val - 1) % 8 ≤ 6; omega) (ix2 r n)
  have d1 : (t.val - 1) / 8 = t.val / 8 := by omega
  have d2 : (t.val - 1) % 8 = 6 := by omega
  have d3 : 8 * (t.val / 8) + 7 = t.val := by omega
  dsimp only at e
  rw [d1, d2] at e
  rw [d3]
  exact congrArg (· + addend m c t.val (ix2 r n)) e

/-- A point's addend in terms of the arrays. -/
theorem addend_eq (b : Fin 6) (q : Fin 4) (s : Fin 8) (r : Fin 1024) (n : Fin 1792) :
    addend m c (8 * (4 * b.val + q.val) + s.val) (ix2 r n)
      = ∑ k : Fin 2048, term m c ⟨1024 * b.val + r.val, by omega⟩ ⟨1792 * q.val + n.val, by omega⟩
          ⟨2048 * s.val + k.val, by omega⟩ := by
  have hN : cfg0.N = 192 := N_0
  have h : 8 * (4 * b.val + q.val) + s.val < cfg0.N := by rw [hN]; omega
  unfold addend
  rw [dif_pos h]
  refine Finset.sum_congr rfl fun k _ => ?_
  unfold term
  have a1 : (8 * (4 * b.val + q.val) + s.val) / 32 = b.val := by omega
  have a2 : (8 * (4 * b.val + q.val) + s.val) % 8 = s.val := by omega
  have a3 : (8 * (4 * b.val + q.val) + s.val) / 8 % 4 = q.val := by omega
  have a4 : 64 * s.val + k.val / 32 = (2048 * s.val + k.val) / 32 := by omega
  have x1 := blk0 m c ⟨_, h⟩ r k
  have x2 := blk1 m c ⟨_, h⟩ k n
  have x3 := blk2 m c ⟨_, h⟩ (⟨k.val / 32, by omega⟩ : Fin 64) n
  simp only [a1, a2, a3, a4] at x1 x2 x3
  show (xb m c ⟨_, h⟩ (ix2 r k) : EReal) * ((wb m c ⟨_, h⟩ (ix2 k n) : EReal) * scale ((sb m c ⟨_, h⟩) (ix2 (⟨k.val / 32, by omega⟩ : Fin 64) n))) = _
  rw [x1, x2, x3]

/-- THE RESULT ARRAY: element (b, r, n) is the contraction of row `1024 b + r` with column `n`. -/
theorem result_apply (b : Fin 6) (r : Fin 1024) (n : Fin 7168) :
    @Eq EReal (G3 m c (ix3 b r n))
      (∑ k : Fin 16384, term m c ⟨1024 * b.val + r.val, by omega⟩ n k) := by
  have hN : cfg0.N = 192 := N_0
  obtain ⟨q, l, rfl⟩ : ∃ (q : Fin 4) (l : Fin 1792), n = ⟨1792 * q.val + l.val, by omega⟩ :=
    ⟨⟨n.val / 1792, by omega⟩, ⟨n.val % 1792, by omega⟩, Fin.ext (by show n.val = 1792 * (n.val / 1792) + n.val % 1792; omega)⟩
  have hp : pt3Of (ix3 b r (⟨1792 * q.val + l.val, by omega⟩ : Fin 7168)) = 8 * (4 * b.val + q.val) + 7 := by
    show 8 * (4 * (b.val / 1 - 0) + 4 * (r.val / 1024 - 0) + 1 * ((1792 * q.val + l.val) / 1792 - 0)) + 7 = _
    omega
  have hl : loc3Of (ix3 b r (⟨1792 * q.val + l.val, by omega⟩ : Fin 7168)) = ix3 (0 : Fin 1) r l := by
    funext a; apply Fin.ext
    match a with
    | ⟨0, _⟩ => show b.val % 1 = 0; omega
    | ⟨1, _⟩ => show r.val % 1024 = r.val; omega
    | ⟨2, _⟩ => show (1792 * q.val + l.val) % 1792 = l.val; omega
  have h : 8 * (4 * b.val + q.val) + 7 < cfg0.N := by rw [hN]; omega
  unfold G3
  rw [dif_pos (by rw [hp]; exact h), hl, fold0_congr m c _ _ (8 * (4 * b.val + q.val) + 7) (by rw [Nat.zero_add]; exact h) hp,
    ← outsAt0_sweep m c _ h]
  have e := out_eq m c ⟨_, h⟩ (by show (8 * (4 * b.val + q.val) + 7) % 8 = 7; omega) r l
  have d : (8 * (4 * b.val + q.val) + 7) / 8 = 4 * b.val + q.val := by omega
  dsimp only at e
  rw [d, Finset.sum_range] at e
  refine Eq.trans e (Eq.trans ?_ (Sums.sum_blocks 8 2048 (fun k : Fin (8 * 2048) =>
    term m c ⟨1024 * b.val + r.val, by omega⟩ ⟨1792 * q.val + l.val, by omega⟩ k)).symm)
  exact Finset.sum_congr rfl fun s _ => addend_eq m c b q s r l

end Cert.MatmulIdeal.Array

end
-- ==== Proof.Scale.lean ====
/- What a scale byte stands for: for a byte other than 0 and 255, the float whose exponent field is the byte is the
   power of two the reference computes. -/
module

public import Idealize.ShloMosaic.PureOps.Ideal.Laws
public import Idealize.ShloMosaic.Lib.IdealHost

@[expose] public section

noncomputable section

open Idealize.ShloMosaic

namespace Cert.Scale

theorem exp_field : ∀ s : BitVec 8, ((s.setWidth 32 <<< 23).extractLsb' 23 8).toNat = s.toNat := by decide +kernel
theorem frac_field : ∀ s : BitVec 8, ((s.setWidth 32 <<< 23).extractLsb' 0 23).toNat = 0 := by decide +kernel
theorem sign_field : ∀ s : BitVec 8, ((s.setWidth 32 <<< 23).extractLsb' (8 + 23) 1 == 1#1) = false := by decide +kernel

/-- The float built from a scale byte, neither 0 nor 255. -/
theorem ofBits_shift (s : BitVec 8) (h0 : s.toNat ≠ 0) (h1 : s.toNat ≠ 255) :
    Ideal.ofBits .f32 (s.setWidth 32 <<< 23) = (((2 : ℝ) ^ ((s.toNat : ℤ) - 127) : ℝ) : EReal) := by
  show Ideal.ieee 8 23 (s.setWidth 32 <<< 23) = _
  unfold Ideal.ieee
  simp only [exp_field, frac_field, sign_field]
  rw [if_neg (by norm_num; exact h1), if_neg h0]
  refine congrArg _ ?_
  rw [show ((s.toNat : ℤ) - (2 ^ (8 - 1) - 1) - (23 : ℕ)) = ((s.toNat : ℤ) - 127) + (-23) by norm_num; ring, zpow_add₀ (by norm_num)]
  norm_num
  ring

theorem ofBits_two : Ideal.ofBits .f32 0x40000000#32 = ((2 : ℝ) : EReal) := by
  simp [Ideal.ofBits, Ideal.ieee, -EReal.coe_mul]; norm_num

theorem ofBits_127 : Ideal.ofBits .f32 0x42FE0000#32 = ((127 : ℝ) : EReal) := by
  simp [Ideal.ofBits, Ideal.ieee, -EReal.coe_mul]; norm_num

theorem toInt_byte : ∀ s : BitVec 8, (s.setWidth 32).toInt = (s.toNat : ℤ) := by decide +kernel

/-- The reference's power of two. -/
theorem pow_byte (s : BitVec 8) :
    Ideal.pow (Ideal.ofBits .f32 0x40000000#32) (((((s.setWidth 32).toInt : ℝ)) : EReal) - Ideal.ofBits .f32 0x42FE0000#32)
      = (((2 : ℝ) ^ ((s.toNat : ℤ) - 127) : ℝ) : EReal) := by
  rw [ofBits_two, ofBits_127, toInt_byte, ← EReal.coe_sub]
  show ((Real.rpow 2 _ : ℝ) : EReal) = _
  refine congrArg _ ?_
  show (2 : ℝ) ^ ((((s.toNat : ℤ) : ℝ) - 127 : ℝ)) = _
  rw [← Real.rpow_intCast]
  push_cast
  rfl

end Cert.Scale

end
-- ==== Proof.RefValue.lean ====
/- The reference's result, element by element: for each of the 512 groups of 32 rows the group's product, times the
   group's scale, summed over the groups. -/
module

public import proofs.«01_k».proof.Proof.Gen.MatmulRefIdeal.Read
public import proofs.«01_k».proof.Proof.Scale
public import Idealize.ShloMosaic.Lib.ValueIdx

@[expose] public section

noncomputable section

open Idealize.ShloMosaic Idealize.ShloMosaic.TcCoe Idealize.SL.Sem Idealize.ShloMosaic.ValueIdx
open scoped BigOperators

namespace Cert.MatmulRefIdeal.RefValue

open Cert.MatmulRefIdeal Cert.MatmulRefIdeal.Gen Cert.MatmulRefIdeal.Value Cert.MatmulRefIdeal.Read

section region

variable {F : FTy → Type} [FloatOps F]
variable (m : (ℓ : Loc nD τ sig) → Buf (Elt F) ℓ) (c : Dev nD)

theorem hz : (![0, 0] : Fin 2 → Nat) = fun _ => 0 := funext fun a => by fin_cases a <;> rfl

/-- The widened weight codes. -/
abbrev wide : Buf (Elt F) ((c.tc : Thread nD τ).loc main_v3) :=
  (extf .f32 (m ((c.tc : Thread nD τ).loc main_arg1) : Vec F S16384x7168 .fp8e4m3) bitsLt_fp8e4m3_f32 : Vec F S16384x7168 .f32)

theorem idx_zero : ∀ t : Fin cfg0.N, (∀ a, win0_0.index t a = 0) ∧ ∀ a, win0_1.index t a = 0 :=
  (by decide +kernel : ∀ t : Fin grid0.N, _)

theorem iblk_eq (t : Fin cfg0.N) : (iblk m c 0 t : Vec F S16384x7168 .fp8e4m3) = m ((c.tc : Thread nD τ).loc main_arg1) := by
  have h := (idx_zero t).1
  unfold iblk
  have hz' : (fun a => win0_0.index t a * main_arg1.ty.shape.size a) = fun _ => 0 := funext fun a => by rw [h a]; exact Nat.zero_mul _
  exact (Memref.read_access_unit_zero (Elt F) main_arg1 hz' (fun a => by rw [congrFun hz' a]; simp) (V m c main_arg1)).trans (V_main_arg1 m c)

theorem flushed_eq (t : Fin cfg0.N) (hf : (cfg0.win 1).flush t = true) :
    (dats m 0 c).flushed 1 t = ((cfg0.win 1).blk t).view.read (Elt F) (wide m c) := by
  have h := (idx_zero t).2
  show (cfg0.win 1).cut (grid0.coords t) ((dats m 0 c).after 1 t) = _
  rw [after0_1, iblk_eq]
  unfold out0_1
  rw [View.canon_unit_zero hz]
  unfold k0_pay1
  rw [View.ld_unit_zero (S := S16384x7168) hz]
  have hz' : (fun a => win0_1.index t a * main_v3.ty.shape.size a) = fun _ => 0 := funext fun a => by rw [h a]; exact Nat.zero_mul _
  exact (Memref.read_access_unit_zero (Elt F) main_v3 hz' (fun a => by rw [congrFun hz' a]; simp) (wide m c)).symm

/-- The region leaves the widened codes: its one point covers the array. -/
theorem reg_eq : reg_main_v3 m c = wide m c := by
  unfold reg_main_v3
  have hN : 0 < cfg0.N := by decide
  refine (dats m 0 c).arrAt_eq_of_cover 1 (wide m c) (flushed_eq m c) fun i => ⟨⟨0, hN⟩, flush0_1 _, ?_⟩
  have h := (idx_zero ⟨0, hN⟩).2
  show i ∈ ((View.whole main_v3).slice (win0_1.rect ⟨0, hN⟩)).set
  rw [View.set_slice_whole, Rect.mem_set_unit]
  intro a
  have h0 : (i 0 : Nat) < 16384 := (i 0).isLt
  have h1 : (i 1 : Nat) < 7168 := (i 1).isLt
  match a with
  | ⟨0, _⟩ => show win0_1.index ⟨0, hN⟩ 0 * 16384 ≤ (i 0 : Nat) ∧ (i 0 : Nat) < win0_1.index ⟨0, hN⟩ 0 * 16384 + 16384
              rw [h 0]; omega
  | ⟨1, _⟩ => show win0_1.index ⟨0, hN⟩ 1 * 7168 ≤ (i 1 : Nat) ∧ (i 1 : Nat) < win0_1.index ⟨0, hN⟩ 1 * 7168 + 7168
              rw [h 1]; omega

end region

variable (m : (ℓ : Loc nD τ sig) → Buf (Elt Ideal) ℓ) (c : Dev nD)

/-- The arrays the reference reads. -/
abbrev X : Vec Ideal S6144x16384 .bf16 := m ((c.tc : Thread nD τ).loc main_arg0)
abbrev W : Vec Ideal S16384x7168 .fp8e4m3 := m ((c.tc : Thread nD τ).loc main_arg1)
abbrev S : Vec Ideal S512x7168 .i8 := m ((c.tc : Thread nD τ).loc main_arg2)

/-- The activations regrouped: entry (g, i, j) is column `32 g + j` of row `i`. -/
abbrev xf : FVec Ideal S6144x16384 .f32 := extf .f32 (X m c) bitsLt_bf16_f32
abbrev x3 : FVec Ideal S6144x512x32 .f32 := shapeCast S6144x512x32 (xf m c) shapeCasts_S6144x16384_S6144x512x32
abbrev acts : FVec Ideal S512x6144x32 .f32 := transpose S512x6144x32 [1, 0, 2] (x3 m c) transposes_S6144x512x32_S512x6144x32_1_0_2
abbrev wf : FVec Ideal S16384x7168 .f32 := extf .f32 (W m c) bitsLt_fp8e4m3_f32

/-- The reference's operations composed, of the three arrays. -/
def result : Vec Ideal S6x1024x7168 .bf16 :=
  val_main_v17 (F := Ideal) (S m c) (wf m c) (acts m c)

/-- The reference runs and ends with that. -/
theorem run (ρ : Dev nD → PrngReg) :
    θ_run defs (onTc (τ := τ) (main (F := Ideal))) ⟨m, fun _ => 0, ρ⟩ fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by rw [reg_eq]; rfl), (h c).2⟩) (Value.run m ρ)

theorem acts_apply (g : Fin 512) (i : Fin 6144) (j : Fin 32) :
    (acts m c (ix3 g i j) : EReal)
      = X m c (ix2 i (⟨32 * g.val + j.val, by omega⟩ : Fin 16384)) := by
  unfold acts x3
  rw [transpose_apply (t := S512x6144x32) [1, 0, 2] _ transposes_S6144x512x32_S512x6144x32_1_0_2 (ix3 g i j) (ix3 i g j)
    (fun a => match a with | ⟨0, _⟩ => rfl | ⟨1, _⟩ => rfl | ⟨2, _⟩ => rfl)]
  rw [shapeCast_apply (t := S6144x512x32) _ shapeCasts_S6144x16384_S6144x512x32 (ix3 i g j) (ix2 i (⟨32 * g.val + j.val, by omega⟩ : Fin 16384))
    (by rewrite [Shape.rowMajor_val_two, Shape.rowMajor_val_three]; show i.val * 16384 + (32 * g.val + j.val) = (i.val * 512 + g.val) * 32 + j.val; omega)]
  rfl

/-- The reference's power of two at a scale byte. -/
theorem scale_apply (g : Fin 512) (n : Fin 7168) :
    (val_main_v11 (F := Ideal) (S m c) (ix2 g n) : EReal) = (((2 : ℝ) ^ (((S m c (ix2 g n) : BitVec 8).toNat : ℤ) - 127) : ℝ) : EReal) := by
  rw [val_main_v11_apply, val_main_v6_apply, val_main_v10_apply, val_main_v8_apply, val_main_v9_apply, val_main_v7_apply]
  exact Scale.pow_byte _

/-- THE REFERENCE'S ELEMENT. -/
theorem result_apply (b : Fin 6) (r : Fin 1024) (n : Fin 7168) :
    (result m c (ix3 b r n) : EReal)
      = ∑ g : Fin 512, (∑ j : Fin 32, (X m c (ix2 (⟨1024 * b.val + r.val, by omega⟩ : Fin 6144) (⟨32 * g.val + j.val, by omega⟩ : Fin 16384)) : EReal)
          * W m c (ix2 (⟨32 * g.val + j.val, by omega⟩ : Fin 16384) n))
          * (((2 : ℝ) ^ (((S m c (ix2 g n) : BitVec 8).toNat : ℤ) - 127) : ℝ) : EReal) := by
  unfold result
  rw [val_main_v17_apply, val_main_v16_apply]
  have hi : idx_main_v17 (ix3 b r n) = ix2 (⟨1024 * b.val + r.val, by omega⟩ : Fin 6144) n := by
    funext a; apply Fin.ext
    match a with
    | ⟨0, _⟩ => show ((b.val * 1024 + r.val) * 7168 + n.val) / 7168 = 1024 * b.val + r.val; omega
    | ⟨1, _⟩ => show ((b.val * 1024 + r.val) * 7168 + n.val) % 7168 = n.val; omega
  rw [hi]
  generalize hq : (⟨1024 * b.val + r.val, by omega⟩ : Fin 6144) = q
  show (val_main_v15 (F := Ideal) _ _ _ (ix2 q n) : EReal) = _
  rw [val_main_v15_apply]
  rw [show (val_main_cst_1 (F := Ideal) (Shape.Idx.first h_S_) : EReal) = 0 from Ideal.ofBits_zero_f32, zero_add]
  refine Finset.sum_congr rfl fun g _ => ?_
  rw [val_main_v14_apply, val_main_v13_apply, val_main_v12_apply, val_main_v5_apply]
  show @Eq EReal (_ * _) _
  have e1 : idx_main_v12 (idx_main_v13 (idx_main_v15 (ix2 q n) g)) = ix2 g n := eq_ix2 _
  rw [e1, scale_apply]
  refine congrArg (· * _) (Finset.sum_congr rfl fun j _ => ?_)
  have e2 : lidx_main_v5 (idx_main_v15 (ix2 q n) g) j = ix3 g q j := eq_ix3 _
  have e3 : ridx_main_v5 (idx_main_v15 (ix2 q n) g) j = ix3 g j n := eq_ix3 _
  rw [e2, e3, val_main_v4_apply]
  have e4 : idx_main_v4 (ix3 g j n) = ix2 (⟨32 * g.val + j.val, by omega⟩ : Fin 16384) n := by
    funext a; apply Fin.ext
    match a with
    | ⟨0, _⟩ => show ((g.val * 32 + j.val) * 7168 + n.val) / 7168 = 32 * g.val + j.val; omega
    | ⟨1, _⟩ => show ((g.val * 32 + j.val) * 7168 + n.val) % 7168 = n.val; omega
  rw [e4]
  exact congrArg (· * _) (acts_apply m c g q j)

end Cert.MatmulRefIdeal.RefValue

end
-- ==== Proof.Equation.lean ====
/- The kernel's element equals the reference's: over the extended reals a group's scale, a positive real, may be taken
   out of the sum over the group's 32 rows. -/
module

public import proofs.«01_k».proof.Proof.Array
public import proofs.«01_k».proof.Proof.RefValue
public import proofs.«01_k».proof.Proof.Gen.Pre_scales_normal
public import proofs.«01_k».proof.Defs

@[expose] public section

noncomputable section

open Idealize.ShloMosaic Idealize.ShloMosaic.TcCoe Idealize.SL.Sem Idealize.ShloMosaic.ValueIdx
open scoped BigOperators

namespace Cert.Equation

open Cert.MatmulIdeal.Element (scale)

/-- Rows of 32 with one scale each: the scale comes out of the group's sum. -/
theorem groups (x w : Fin 16384 → EReal) (s : Fin 512 → BitVec 8)
    (hs : ∀ g, (s g).toNat ≠ 0 ∧ (s g).toNat ≠ 255) :
    ∑ k : Fin 16384, x k * (w k * scale (s ⟨k.val / 32, by omega⟩))
      = ∑ g : Fin 512, (∑ j : Fin 32, x ⟨32 * g.val + j.val, by omega⟩ * w ⟨32 * g.val + j.val, by omega⟩)
          * (((2 : ℝ) ^ (((s g).toNat : ℤ) - 127) : ℝ) : EReal) := by
  refine Eq.trans (Sums.sum_blocks 512 32 (fun k : Fin (512 * 32) =>
    x k * (w k * scale (s ⟨k.val / 32, by have := k.isLt; omega⟩)))) (Finset.sum_congr rfl fun g _ => ?_)
  rw [Sums.sum_mul _ _ _ (by positivity)]
  refine Finset.sum_congr rfl fun j _ => ?_
  have e : (⟨(32 * g.val + j.val) / 32, by omega⟩ : Fin 512) = g := Fin.ext (by show (32 * g.val + j.val) / 32 = g.val; omega)
  dsimp only
  rw [e]
  unfold scale
  rw [Scale.ofBits_shift (s g) (hs g).1 (hs g).2, mul_assoc]

theorem byte_of_pre : ∀ s : BitVec 8,
    ((IntOp.cmpi .sgt (s.setWidth 32) 0#32) &&& (IntOp.cmpi .slt (s.setWidth 32) 255#32)) = 1#1 → s.toNat ≠ 0 ∧ s.toNat ≠ 255 := by
  decide +kernel

/-- What the precondition says of each scale byte. -/
theorem pre_byte (m : (ℓ : Loc MatmulIdeal.nD MatmulIdeal.τ MatmulIdeal.sig) → Buf (Elt Ideal) ℓ)
    (h : Pre_MatmulIdeal_scales_normal m) (c : Dev MatmulIdeal.nD) (g : Fin 512) (n : Fin 7168) :
    (MatmulIdeal.Array.S m c (ix2 g n) : BitVec 8).toNat ≠ 0 ∧ (MatmulIdeal.Array.S m c (ix2 g n) : BitVec 8).toNat ≠ 255 :=
  byte_of_pre _ (congrFun (h c) (ix2 g n))

/-- From arguments that agree, the two results agree. -/
theorem results_eq (m : (ℓ : Loc MatmulIdeal.nD MatmulIdeal.τ MatmulIdeal.sig) → Buf (Elt Ideal) ℓ)
    (m' : (ℓ : Loc MatmulRefIdeal.nD MatmulRefIdeal.τ MatmulRefIdeal.sig) → Buf (Elt Ideal) ℓ)
    (h : Pre_MatmulIdeal_scales_normal m) (c : Dev MatmulIdeal.nD)
    (h0 : MatmulRefIdeal.RefValue.X m' c = MatmulIdeal.Array.X m c)
    (h1 : MatmulRefIdeal.RefValue.W m' c = MatmulIdeal.Array.W m c)
    (h2 : MatmulRefIdeal.RefValue.S m' c = MatmulIdeal.Array.S m c) :
    MatmulRefIdeal.RefValue.result m' c = (MatmulIdeal.Value.G3 m c : Vec Ideal MatmulIdeal.S6x1024x7168 .bf16) := by
  funext i
  obtain ⟨b, r, n, rfl⟩ : ∃ (b : Fin 6) (r : Fin 1024) (n : Fin 7168), i = ix3 b r n := ⟨i 0, i 1, i 2, eq_ix3 i⟩
  refine (MatmulRefIdeal.RefValue.result_apply m' c b r n).trans (Eq.trans ?_ (MatmulIdeal.Array.result_apply m c b r n).symm)
  rw [h0, h1, h2]
  unfold MatmulIdeal.Array.term
  exact (groups (fun k => MatmulIdeal.Array.X m c (ix2 ⟨1024 * b.val + r.val, by omega⟩ k)) (fun k => MatmulIdeal.Array.W m c (ix2 k n))
    (fun g => MatmulIdeal.Array.S m c (ix2 g n)) (fun g => pre_byte m h c g n)).symm

end Cert.Equation

end
-- ==== Proof.Butterfly.lean ====
/- The quantiser's tree of lane rotations and maxima, as plain arithmetic: five steps, of 16, 8, 4, 2 and 1 lanes, take
   the 32 chunks of a row to one vector of 128 lanes, whose lane `l` is at most `z` exactly when the 32 entries of
   chunk `l % 32` in lanes `32 (l / 32) …` are. -/
module

public import Mathlib.Data.EReal.Basic

@[expose] public section

noncomputable section

namespace Cert.Butterfly

/-- What lane `l` of chunk `c` holds before the step of `s / 2` lanes: at most `z` exactly when the `32 / s` entries
    it stands for are. -/
def Holds (A : ℕ → ℕ → EReal) (s c : ℕ) (f : ℕ → EReal) : Prop :=
  ∀ l < 128, ∀ z : EReal, f l ≤ z ↔ ∀ q < 32 / s, A (c + s * ((l % 32) / s)) (32 * (l / 32) + l % s + s * q) ≤ z

/-- One step: lanes with the bit take the upper half's chunk and the lane `s` below, the others the lower half's and
    the lane `s` above. -/
def stage (s : ℕ) (f g : ℕ → EReal) (l : ℕ) : EReal :=
  if l / s % 2 = 1 then max (g l) (g (l - s)) else max (f l) (f (l + s))

theorem leaf (A : ℕ → ℕ → EReal) (c : ℕ) : Holds A 32 c (A c) := by
  intro l hl z
  have e1 : c + 32 * ((l % 32) / 32) = c := by omega
  have e2 : 32 * (l / 32) + l % 32 + 32 * 0 = l := by omega
  constructor
  · intro h q hq
    obtain rfl : q = 0 := by omega
    rw [e1, e2]; exact h
  · intro h
    have := h 0 (by omega)
    rwa [e1, e2] at this

/-- The step from spacing `2 s` to spacing `s`. -/
theorem step (A : ℕ → ℕ → EReal) (s c : ℕ) (hs : s = 16 ∨ s = 8 ∨ s = 4 ∨ s = 2 ∨ s = 1) (f g : ℕ → EReal)
    (hf : Holds A (2 * s) c f) (hg : Holds A (2 * s) (c + s) g) : Holds A s c (stage s f g) := by
  intro l hl z
  unfold stage
  have key : ∀ (h : ℕ → EReal) (c' l' : ℕ), Holds A (2 * s) c' h → l < 128 → l' < 128 → l' / 32 = l / 32 →
      (c' + 2 * s * ((l % 32) / (2 * s)) = c + s * ((l % 32) / s)) → (l' % 32) / (2 * s) = (l % 32) / (2 * s) →
      ((l % (2 * s) = l % s ∧ l' % (2 * s) = l % s + s) ∨ (l % (2 * s) = l % s + s ∧ l' % (2 * s) = l % s)) →
      (max (h l) (h l') ≤ z ↔ ∀ q < 32 / s, A (c + s * ((l % 32) / s)) (32 * (l / 32) + l % s + s * q) ≤ z) := by
    intro h c' l' hh h1 h2 e1 e2 e3 e4
    rw [max_le_iff, hh l h1 z, hh l' h2 z, e1, e3, e2]
    constructor
    · rintro ⟨a, b⟩ q hq
      have hq2 : q / 2 < 32 / (2 * s) := by rcases hs with rfl | rfl | rfl | rfl | rfl <;> omega
      have a' := a (q / 2) hq2
      have b' := b (q / 2) hq2
      rcases Nat.mod_two_eq_zero_or_one q with hm | hm
      · rcases e4 with ⟨ea, eb⟩ | ⟨ea, eb⟩
        · rw [ea] at a'
          have : 32 * (l / 32) + l % s + s * q = 32 * (l / 32) + l % s + 2 * s * (q / 2) := by
            rcases hs with rfl | rfl | rfl | rfl | rfl <;> omega
          rw [this]; exact a'
        · rw [eb] at b'
          have : 32 * (l / 32) + l % s + s * q = 32 * (l / 32) + l % s + 2 * s * (q / 2) := by
            rcases hs with rfl | rfl | rfl | rfl | rfl <;> omega
          rw [this]; exact b'
      · rcases e4 with ⟨ea, eb⟩ | ⟨ea, eb⟩
        · rw [eb] at b'
          have : 32 * (l / 32) + l % s + s * q = 32 * (l / 32) + (l % s + s) + 2 * s * (q / 2) := by
            rcases hs with rfl | rfl | rfl | rfl | rfl <;> omega
          rw [this]; exact b'
        · rw [ea] at a'
          have : 32 * (l / 32) + l % s + s * q = 32 * (l / 32) + (l % s + s) + 2 * s * (q / 2) := by
            rcases hs with rfl | rfl | rfl | rfl | rfl <;> omega
          rw [this]; exact a'
    · intro a
      have lo : ∀ q < 32 / (2 * s), A (c + s * ((l % 32) / s)) (32 * (l / 32) + l % s + 2 * s * q) ≤ z := by
        intro q hq
        have := a (2 * q) (by rcases hs with rfl | rfl | rfl | rfl | rfl <;> omega)
        have e : 32 * (l / 32) + l % s + s * (2 * q) = 32 * (l / 32) + l % s + 2 * s * q := by
          rcases hs with rfl | rfl | rfl | rfl | rfl <;> omega
        rwa [e] at this
      have hi : ∀ q < 32 / (2 * s), A (c + s * ((l % 32) / s)) (32 * (l / 32) + (l % s + s) + 2 * s * q) ≤ z := by
        intro q hq
        have := a (2 * q + 1) (by rcases hs with rfl | rfl | rfl | rfl | rfl <;> omega)
        have e : 32 * (l / 32) + l % s + s * (2 * q + 1) = 32 * (l / 32) + (l % s + s) + 2 * s * q := by
          rcases hs with rfl | rfl | rfl | rfl | rfl <;> omega
        rwa [e] at this
      rcases e4 with ⟨ea, eb⟩ | ⟨ea, eb⟩
      · rw [ea, eb]; exact ⟨lo, hi⟩
      · rw [ea, eb]; exact ⟨hi, lo⟩
  by_cases hb : l / s % 2 = 1
  · rw [if_pos hb]
    refine key g (c + s) (l - s) hg hl (by omega) ?_ ?_ ?_ ?_ <;>
      rcases hs with rfl | rfl | rfl | rfl | rfl <;> omega
  · rw [if_neg hb]
    refine key f c (l + s) hf hl ?_ ?_ ?_ ?_ ?_ <;>
      rcases hs with rfl | rfl | rfl | rfl | rfl <;> omega

/-- The whole tree over the 32 chunks. -/
def tree (A : ℕ → ℕ → EReal) : ℕ → ℕ → ℕ → EReal
  | 0, c => A c
  | n + 1, c => stage (2 ^ (4 - n)) (tree A n c) (tree A n (c + 2 ^ (4 - n)))

theorem tree_holds (A : ℕ → ℕ → EReal) : ∀ n, n ≤ 5 → ∀ c, Holds A (2 ^ (5 - n)) c (tree A n c)
  | 0, _, c => leaf A c
  | n + 1, hn, c => by
    have h : 2 ^ (5 - n) = 2 * 2 ^ (4 - n) := by
      rw [show 5 - n = (4 - n) + 1 by omega, pow_succ, mul_comm]
    have a := tree_holds A n (by omega) c
    have b := tree_holds A n (by omega) (c + 2 ^ (4 - n))
    rw [h] at a b
    rw [show 5 - (n + 1) = 4 - n by omega]
    refine step A (2 ^ (4 - n)) c ?_ _ _ a b
    have : n = 0 ∨ n = 1 ∨ n = 2 ∨ n = 3 ∨ n = 4 := by omega
    rcases this with rfl | rfl | rfl | rfl | rfl <;> decide

/-- The tree's lane `l` is the largest of the 32 entries of its group. -/
theorem tree_le (A : ℕ → ℕ → EReal) (l : ℕ) (hl : l < 128) (z : EReal) :
    tree A 5 0 l ≤ z ↔ ∀ q < 32, A (l % 32) (32 * (l / 32) + q) ≤ z := by
  have h := tree_holds A 5 le_rfl 0 l hl z
  have e1 : 0 + 2 ^ (5 - 5) * (l % 32 / 2 ^ (5 - 5)) = l % 32 := by simp
  rw [e1] at h
  rw [h]
  have e2 : 32 / 2 ^ (5 - 5) = 32 := rfl
  rw [e2]
  refine forall_congr' fun q => forall_congr' fun _ => ?_
  have e3 : 32 * (l / 32) + l % 2 ^ (5 - 5) + 2 ^ (5 - 5) * q = 32 * (l / 32) + q := by
    simp [Nat.mod_one]
  rw [e3]

end Cert.Butterfly

end
-- ==== Proof.Amax.lean ====
/- The quantiser's largest entry of each group of 32 columns, in one block: the tree of lane rotations and maxima leaves
   in lane `l` the largest magnitude of the group in chunk `l % 32`, lanes `32 (l / 32)` to `32 (l / 32) + 31`. -/
module

public import proofs.«01_k».proof.Proof.Butterfly
public import proofs.«01_k».proof.Proof.Gen.QuantiseIdeal.Value
public import Idealize.ShloMosaic.Lib.ValueIdx
public import Idealize.ShloMosaic.Lib.KernelVsHost
public import Idealize.ShloMosaic.PureOps.Ideal.Laws

@[expose] public section

noncomputable section

open Idealize.ShloMosaic Idealize.ShloMosaic.TcCoe Idealize.SL.Sem Idealize.ShloMosaic.ValueIdx

namespace Cert.QuantiseIdeal.Amax

open Cert.QuantiseIdeal Cert.QuantiseIdeal.Gen Cert.Butterfly

/-- The lane of each element. -/
def lane : IVec S256x128 32 := iota .tc S256x128 32 [1] iota_S256x128_d1_w32

/-- One step of the tree on two vectors. -/
def stg (s s' : BitVec 32) (a b : FVec Ideal S256x128 .bf16) : FVec Ideal S256x128 .bf16 :=
  select (cmpi .ne (andi lane (broadcast S256x128 s)) (broadcast S256x128 0#32))
    (maximumf b (dynamicRotate 1 s none b rotates_S256x128_d1)) (maximumf a (dynamicRotate 1 s' none a rotates_S256x128_d1))

/-- A leaf: the magnitudes of one chunk of 128 columns. -/
def lf (v : Vec Ideal S256x128 .bf16) : FVec Ideal S256x128 .bf16 := absf v

/-- The tree over the block's 32 chunks. -/
def tr (x0 : Vec Ideal S256x4096 .bf16) : FVec Ideal S256x128 .bf16 :=
  (stg 1#32 127#32 (stg 2#32 126#32 (stg 4#32 124#32 (stg 8#32 120#32 (stg 16#32 112#32 (lf (View.ld x0 r0_0)) (lf (View.ld x0 r0_16))) (stg 16#32 112#32 (lf (View.ld x0 r0_8)) (lf (View.ld x0 r0_24)))) (stg 8#32 120#32 (stg 16#32 112#32 (lf (View.ld x0 r0_4)) (lf (View.ld x0 r0_20))) (stg 16#32 112#32 (lf (View.ld x0 r0_12)) (lf (View.ld x0 r0_28))))) (stg 4#32 124#32 (stg 8#32 120#32 (stg 16#32 112#32 (lf (View.ld x0 r0_2)) (lf (View.ld x0 r0_18))) (stg 16#32 112#32 (lf (View.ld x0 r0_10)) (lf (View.ld x0 r0_26)))) (stg 8#32 120#32 (stg 16#32 112#32 (lf (View.ld x0 r0_6)) (lf (View.ld x0 r0_22))) (stg 16#32 112#32 (lf (View.ld x0 r0_14)) (lf (View.ld x0 r0_30)))))) (stg 2#32 126#32 (stg 4#32 124#32 (stg 8#32 120#32 (stg 16#32 112#32 (lf (View.ld x0 r0_1)) (lf (View.ld x0 r0_17))) (stg 16#32 112#32 (lf (View.ld x0 r0_9)) (lf (View.ld x0 r0_25)))) (stg 8#32 120#32 (stg 16#32 112#32 (lf (View.ld x0 r0_5)) (lf (View.ld x0 r0_21))) (stg 16#32 112#32 (lf (View.ld x0 r0_13)) (lf (View.ld x0 r0_29))))) (stg 4#32 124#32 (stg 8#32 120#32 (stg 16#32 112#32 (lf (View.ld x0 r0_3)) (lf (View.ld x0 r0_19))) (stg 16#32 112#32 (lf (View.ld x0 r0_11)) (lf (View.ld x0 r0_27)))) (stg 8#32 120#32 (stg 16#32 112#32 (lf (View.ld x0 r0_7)) (lf (View.ld x0 r0_23))) (stg 16#32 112#32 (lf (View.ld x0 r0_15)) (lf (View.ld x0 r0_31)))))))

/-- The entry of a row of the block at chunk `c`, lane `l`, without its sign. -/
def entry (x0 : Vec Ideal S256x4096 .bf16) (r : Fin 256) (c l : ℕ) : EReal :=
  if h : 128 * c + l < 4096 then max (x0 (ix2 r ⟨128 * c + l, h⟩) : EReal) (-x0 (ix2 r ⟨128 * c + l, h⟩) : EReal) else 0

/-- Row `r` of a vector is `f`. -/
def At (v : FVec Ideal S256x128 .bf16) (r : Fin 256) (f : ℕ → EReal) : Prop := ∀ l : Fin 128, @Eq EReal (v (ix2 r l)) (f l.val)

theorem at_leaf (x0 : Vec Ideal S256x4096 .bf16) (r : Fin 256) (c k : ℕ) (hc : c < 32) (hk : k = 128 * c)
    (inb : ∀ a : Fin 2, (![0, k] : Fin 2 → ℕ) a + S256x128.size a ≤ S256x4096.size a) :
    At (lf (View.ld x0 (Rect.unit (s := S256x4096) ![0, k] S256x128.size inb))) r (entry x0 r c) := by
  subst hk
  intro l
  have hl := l.isLt
  have h : 128 * c + l.val < 4096 := by omega
  unfold entry
  rw [dif_pos h]
  have e : ∀ y : Ideal .bf16, y = x0 (ix2 r ⟨128 * c + l.val, h⟩) → @Eq EReal (max (y : EReal) (-y : EReal))
      (max (x0 (ix2 r ⟨128 * c + l, h⟩) : EReal) (-x0 (ix2 r ⟨128 * c + l, h⟩) : EReal)) := fun y hy => by rw [hy]
  refine e (View.ld x0 (Rect.unit (s := S256x4096) ![0, 128 * c] S256x128.size inb) (ix2 r l)) ?_
  refine congrArg x0 (funext fun a => Fin.ext ?_)
  match a with
  | ⟨0, _⟩ => show 0 + 1 * r.val = r.val; omega
  | ⟨1, _⟩ => show 128 * c + 1 * l.val = 128 * c + l.val; omega

theorem mask : ∀ s : Fin 5, ∀ l : Fin 128,
    IntOp.cmpi .ne (IntOp.andi (BitVec.ofNat 32 l.val) (BitVec.ofNat 32 (2 ^ s.val))) 0#32
      = if l.val / 2 ^ s.val % 2 = 1 then 1#1 else 0#1 := by decide +kernel

theorem rot_apply (s : BitVec 32) (v : FVec Ideal S256x128 .bf16) (r : Fin 256) (l l' : Fin 128)
    (h : l'.val = (l.val + 128 - s.toNat % 128) % 128) :
    dynamicRotate 1 s none v rotates_S256x128_d1 (ix2 r l) = v (ix2 r l') :=
  dynamicRotate_apply (s := S256x128) (1 : Fin 2) s v rotates_S256x128_d1 (ix2 r l) (ix2 r l') fun b => match b with
    | ⟨0, _⟩ => rfl
    | ⟨1, _⟩ => h

theorem at_stg' (e : Fin 5) {a b : FVec Ideal S256x128 .bf16} {r : Fin 256} {f g : ℕ → EReal} (ha : At a r f) (hb : At b r g) :
    At (stg (BitVec.ofNat 32 (2 ^ e.val)) (BitVec.ofNat 32 (128 - 2 ^ e.val)) a b) r (stage (2 ^ e.val) f g) := by
  intro l
  have hl := l.isLt
  have hs : 2 ^ e.val = 16 ∨ 2 ^ e.val = 8 ∨ 2 ^ e.val = 4 ∨ 2 ^ e.val = 2 ∨ 2 ^ e.val = 1 := by
    revert e; decide
  have m : cmpi .ne (andi lane (broadcast S256x128 (BitVec.ofNat 32 (2 ^ e.val)))) (broadcast S256x128 0#32) (ix2 r l)
      = if l.val / 2 ^ e.val % 2 = 1 then 1#1 else 0#1 := by
    refine Eq.trans ?_ (mask e l)
    show IntOp.cmpi .ne (IntOp.andi (BitVec.ofNat 32 (0 * 128 + l.val)) _) _ = _
    rw [Nat.zero_mul, Nat.zero_add]
    rfl
  generalize 2 ^ e.val = s at *
  unfold stg stage
  rw [select_apply, m]
  by_cases hm : l.val / s % 2 = 1
  · rw [if_pos hm, if_pos hm]
    have hge : s ≤ l.val := by rcases hs with rfl | rfl | rfl | rfl | rfl <;> omega
    rw [select_one]
    show @Eq EReal (max (b (ix2 r l) : EReal) (dynamicRotate 1 (BitVec.ofNat 32 s) none b rotates_S256x128_d1 (ix2 r l) : EReal)) _
    rw [rot_apply _ b r l ⟨l.val - s, by omega⟩ (by
      rw [BitVec.toNat_ofNat]; show l.val - s = _
      rcases hs with rfl | rfl | rfl | rfl | rfl <;> omega), hb l, hb ⟨l.val - s, by omega⟩]
  · rw [if_neg hm, if_neg hm]
    have hlt : l.val + s < 128 := by rcases hs with rfl | rfl | rfl | rfl | rfl <;> omega
    rw [select_zero]
    show @Eq EReal (max (a (ix2 r l) : EReal) (dynamicRotate 1 (BitVec.ofNat 32 (128 - s)) none a rotates_S256x128_d1 (ix2 r l) : EReal)) _
    rw [rot_apply _ a r l ⟨l.val + s, hlt⟩ (by
      rw [BitVec.toNat_ofNat]; show l.val + s = _
      rcases hs with rfl | rfl | rfl | rfl | rfl <;> omega), ha l, ha ⟨l.val + s, hlt⟩]

theorem at_16 {a b : FVec Ideal S256x128 .bf16} {r : Fin 256} {f g : ℕ → EReal} (ha : At a r f) (hb : At b r g) :
    At (stg 16#32 112#32 a b) r (stage 16 f g) := at_stg' 4 ha hb
theorem at_8 {a b : FVec Ideal S256x128 .bf16} {r : Fin 256} {f g : ℕ → EReal} (ha : At a r f) (hb : At b r g) :
    At (stg 8#32 120#32 a b) r (stage 8 f g) := at_stg' 3 ha hb
theorem at_4 {a b : FVec Ideal S256x128 .bf16} {r : Fin 256} {f g : ℕ → EReal} (ha : At a r f) (hb : At b r g) :
    At (stg 4#32 124#32 a b) r (stage 4 f g) := at_stg' 2 ha hb
theorem at_2 {a b : FVec Ideal S256x128 .bf16} {r : Fin 256} {f g : ℕ → EReal} (ha : At a r f) (hb : At b r g) :
    At (stg 2#32 126#32 a b) r (stage 2 f g) := at_stg' 1 ha hb
theorem at_1 {a b : FVec Ideal S256x128 .bf16} {r : Fin 256} {f g : ℕ → EReal} (ha : At a r f) (hb : At b r g) :
    At (stg 1#32 127#32 a b) r (stage 1 f g) := at_stg' 0 ha hb

set_option maxRecDepth 8192 in
theorem at_tr (x0 : Vec Ideal S256x4096 .bf16) (r : Fin 256) : At (tr x0) r (tree (entry x0 r) 5 0) :=
  (at_1 (at_2 (at_4 (at_8 (at_16 (at_leaf x0 r 0 0 (by decide) rfl _) (at_leaf x0 r 16 2048 (by decide) rfl _)) (at_16 (at_leaf x0 r 8 1024 (by decide) rfl _) (at_leaf x0 r 24 3072 (by decide) rfl _))) (at_8 (at_16 (at_leaf x0 r 4 512 (by decide) rfl _) (at_leaf x0 r 20 2560 (by decide) rfl _)) (at_16 (at_leaf x0 r 12 1536 (by decide) rfl _) (at_leaf x0 r 28 3584 (by decide) rfl _)))) (at_4 (at_8 (at_16 (at_leaf x0 r 2 256 (by decide) rfl _) (at_leaf x0 r 18 2304 (by decide) rfl _)) (at_16 (at_leaf x0 r 10 1280 (by decide) rfl _) (at_leaf x0 r 26 3328 (by decide) rfl _))) (at_8 (at_16 (at_leaf x0 r 6 768 (by decide) rfl _) (at_leaf x0 r 22 2816 (by decide) rfl _)) (at_16 (at_leaf x0 r 14 1792 (by decide) rfl _) (at_leaf x0 r 30 3840 (by decide) rfl _))))) (at_2 (at_4 (at_8 (at_16 (at_leaf x0 r 1 128 (by decide) rfl _) (at_leaf x0 r 17 2176 (by decide) rfl _)) (at_16 (at_leaf x0 r 9 1152 (by decide) rfl _) (at_leaf x0 r 25 3200 (by decide) rfl _))) (at_8 (at_16 (at_leaf x0 r 5 640 (by decide) rfl _) (at_leaf x0 r 21 2688 (by decide) rfl _)) (at_16 (at_leaf x0 r 13 1664 (by decide) rfl _) (at_leaf x0 r 29 3712 (by decide) rfl _)))) (at_4 (at_8 (at_16 (at_leaf x0 r 3 384 (by decide) rfl _) (at_leaf x0 r 19 2432 (by decide) rfl _)) (at_16 (at_leaf x0 r 11 1408 (by decide) rfl _) (at_leaf x0 r 27 3456 (by decide) rfl _))) (at_8 (at_16 (at_leaf x0 r 7 896 (by decide) rfl _) (at_leaf x0 r 23 2944 (by decide) rfl _)) (at_16 (at_leaf x0 r 15 1920 (by decide) rfl _) (at_leaf x0 r 31 3968 (by decide) rfl _))))))

/-- Lane `l` of the tree is at most `z` exactly when the 32 entries of its group are. -/
theorem tr_le (x0 : Vec Ideal S256x4096 .bf16) (r : Fin 256) (l : Fin 128) (z : EReal) :
    (tr x0 (ix2 r l) : EReal) ≤ z ↔ ∀ q < 32, entry x0 r (l.val % 32) (32 * (l.val / 32) + q) ≤ z := by
  rw [at_tr x0 r l]
  exact tree_le _ l.val l.isLt z

/-- The printed vector of largest entries over 448 is the tree's, times the constant. -/
theorem scaled_eq (x0 : Vec Ideal S256x4096 .bf16) (x1 : Vec Ideal S128x4096 .bf16) (x2 : Vec Ideal S128x128 .bf16) :
    k0_pay86 x0 x1 x2 = mulf (extf .f32 (tr x0) bitsLt_bf16_f32) (broadcast S256x128 (Scalar.ofBits (F := Ideal) .f32 0x3B124925#32)) := rfl

end Cert.QuantiseIdeal.Amax

end
-- ==== Proof.Exponent.lean ====
/- The shared exponent of a group as plain arithmetic: the kernel's search for it, one bit of the exponent field at a
   time, and the reference's logarithm find the same power of two. -/
module

public import proofs.«01_k».proof.Proof.Scale
public import Idealize.ShloMosaic.Lib.ValueIdx
public import Idealize.ShloMosaic.PureOps.Ideal.Laws

@[expose] public section

noncomputable section

open Idealize.ShloMosaic

namespace Cert.Exponent

/-- One step of the search: set bit `b` when the power of two of that field is at most `t`. -/
def probe (t : EReal) (f b : BitVec 32) : BitVec 32 :=
  Scalar.select (Ideal.cmp .ole (Ideal.ofBits .f32 (IntOp.shli .vector (IntOp.ori f b) 23#32)) t) (IntOp.ori f b) f

/-- The upper half of the search, -/
def high (t : EReal) : BitVec 32 :=
  probe t (probe t (probe t (probe t 0#32 128#32) 64#32) 32#32) 16#32

/-- and the lower half. -/
def field (t : EReal) : BitVec 32 :=
  probe t (probe t (probe t (probe t (high t) 8#32) 4#32) 2#32) 1#32

/-- The exponent of a field. -/
def expo (f : BitVec 32) : BitVec 32 :=
  IntOp.minsi 127#32 (IntOp.maxsi 4294967169#32
    (Scalar.select (IntOp.ori (IntOp.cmpi .eq f 0#32) (IntOp.cmpi .eq f 255#32)) 0#32 (IntOp.subi f 126#32)))

/-- The search over bytes, against a known field. -/
def probe8 (f : ℕ) (x b : BitVec 8) : BitVec 8 := if (x ||| b).toNat ≤ f then x ||| b else x

theorem or_ne_zero (x b : BitVec 8) (hb : b ≠ 0#8) : x ||| b ≠ 0#8 := by
  intro h; apply hb
  exact (BitVec.or_eq_zero_iff.1 h).2

theorem shli_23 (x : BitVec 32) : IntOp.shli .vector x 23#32 = x <<< 23 := by
  simp [IntOp.shli, IntOp.cornerWord]

theorem probe_eq (t : EReal) (f : ℕ)
    (h : ∀ g : BitVec 8, g ≠ 0#8 → (Ideal.ofBits .f32 (g.setWidth 32 <<< 23) ≤ t ↔ g.toNat ≤ f)) (x b : BitVec 8) (hb : b ≠ 0#8) :
    probe t (x.setWidth 32) (b.setWidth 32) = (probe8 f x b).setWidth 32 := by
  unfold probe probe8
  have e : IntOp.ori (x.setWidth 32) (b.setWidth 32) = (x ||| b).setWidth 32 := by
    show x.setWidth 32 ||| b.setWidth 32 = _
    rw [BitVec.setWidth_or]
  rw [e, shli_23]
  have hg := h (x ||| b) (or_ne_zero x b hb)
  by_cases hle : (x ||| b).toNat ≤ f
  · rw [if_pos hle]
    have : Ideal.cmp .ole (Ideal.ofBits .f32 ((x ||| b).setWidth 32 <<< 23)) t = 1#1 := by
      unfold Ideal.cmp; simp only [decide_eq_true (hg.2 hle)]; rfl
    rw [this]; rfl
  · rw [if_neg hle]
    have : Ideal.cmp .ole (Ideal.ofBits .f32 ((x ||| b).setWidth 32 <<< 23)) t = 0#1 := by
      unfold Ideal.cmp; simp only [decide_eq_false (fun h' => hle (hg.1 h'))]; rfl
    rw [this]; rfl

theorem search8 : ∀ f : Fin 253,
    probe8 f (probe8 f (probe8 f (probe8 f (probe8 f (probe8 f (probe8 f (probe8 f 0#8 128#8) 64#8) 32#8) 16#8) 8#8) 4#8) 2#8) 1#8
      = BitVec.ofNat 8 f := by decide +kernel

/-- The search finds the field `f` when the powers of two at most `t` are those up to it. -/
theorem field_eq (t : EReal) (f : ℕ) (hf : f < 253)
    (h : ∀ g : BitVec 8, g ≠ 0#8 → (Ideal.ofBits .f32 (g.setWidth 32 <<< 23) ≤ t ↔ g.toNat ≤ f)) :
    field t = (BitVec.ofNat 8 f).setWidth 32 := by
  unfold field high
  rw [show (0#32 : BitVec 32) = (0#8).setWidth 32 by decide, show (128#32 : BitVec 32) = (128#8).setWidth 32 by decide,
    show (64#32 : BitVec 32) = (64#8).setWidth 32 by decide, show (32#32 : BitVec 32) = (32#8).setWidth 32 by decide,
    show (16#32 : BitVec 32) = (16#8).setWidth 32 by decide, show (8#32 : BitVec 32) = (8#8).setWidth 32 by decide,
    show (4#32 : BitVec 32) = (4#8).setWidth 32 by decide, show (2#32 : BitVec 32) = (2#8).setWidth 32 by decide,
    show (1#32 : BitVec 32) = (1#8).setWidth 32 by decide]
  rw [probe_eq t f h _ _ (by decide), probe_eq t f h _ _ (by decide), probe_eq t f h _ _ (by decide), probe_eq t f h _ _ (by decide),
    probe_eq t f h _ _ (by decide), probe_eq t f h _ _ (by decide), probe_eq t f h _ _ (by decide), probe_eq t f h _ _ (by decide)]
  exact congrArg _ (search8 ⟨f, hf⟩)

/-- The group's scale byte is `n`: its largest entry over 448 is zero and the byte 127, or it lies between the powers
    of two `n - 128` and `n - 127`. -/
def Band (t : EReal) (n : ℕ) : Prop :=
  (t = 0 ∧ n = 127) ∨ (2 ≤ n ∧ n ≤ 253 ∧ (((2 : ℝ) ^ ((n : ℤ) - 128) : ℝ) : EReal) ≤ t ∧ t < (((2 : ℝ) ^ ((n : ℤ) - 127) : ℝ) : EReal))

theorem Band.le {t : EReal} {n : ℕ} (h : Band t n) : 2 ≤ n ∧ n ≤ 253 := by
  rcases h with ⟨-, rfl⟩ | ⟨a, b, -⟩
  · exact ⟨by decide, by decide⟩
  · exact ⟨a, b⟩

theorem ofBits_255 : Ideal.ofBits .f32 ((255#8).setWidth 32 <<< 23) = ⊤ := by
  show Ideal.ieee 8 23 ((255#8).setWidth 32 <<< 23) = _
  unfold Ideal.ieee
  simp only [Scale.exp_field, Scale.frac_field, Scale.sign_field]
  simp

theorem exists_band (t : EReal) (h : t = 0 ∨ ((((2 : ℝ) ^ (-126 : ℤ) : ℝ) : EReal) ≤ t ∧ t < (((2 : ℝ) ^ (126 : ℤ) : ℝ) : EReal))) :
    ∃ n, Band t n := by
  rcases h with h | ⟨h1, h2⟩
  · exact ⟨127, Or.inl ⟨h, rfl⟩⟩
  · have hb : t ≠ ⊥ := fun e => by rw [e] at h1; exact absurd h1 (not_le.2 (EReal.bot_lt_coe _))
    have ht : t ≠ ⊤ := fun e => by rw [e] at h2; exact absurd h2 (not_lt.2 le_top)
    lift t to ℝ using ⟨ht, hb⟩
    rw [EReal.coe_le_coe_iff] at h1
    rw [EReal.coe_lt_coe_iff] at h2
    have hpos : 0 < t := lt_of_lt_of_le (by positivity) h1
    obtain ⟨k, hk1, hk2⟩ := exists_mem_Ico_zpow hpos (one_lt_two : (1 : ℝ) < 2)
    have k1 : -126 < k + 1 := (zpow_lt_zpow_iff_right₀ (one_lt_two : (1 : ℝ) < 2)).1 (lt_of_le_of_lt h1 hk2)
    have k2 : k < 126 := (zpow_lt_zpow_iff_right₀ (one_lt_two : (1 : ℝ) < 2)).1 (lt_of_le_of_lt hk1 h2)
    refine ⟨(k + 128).toNat, Or.inr ⟨by omega, by omega, ?_, ?_⟩⟩
    · rw [EReal.coe_le_coe_iff, show (((k + 128).toNat : ℕ) : ℤ) - 128 = k by omega]; exact hk1
    · rw [EReal.coe_lt_coe_iff, show (((k + 128).toNat : ℕ) : ℤ) - 127 = k + 1 by omega]; exact hk2

/-- The field the kernel finds. -/
theorem field_band {t : EReal} {n : ℕ} (h : Band t n) :
    field t = (BitVec.ofNat 8 (if t = 0 then 0 else n - 1)).setWidth 32 := by
  have hn := h.le
  refine field_eq t _ (by split <;> omega) fun g hg => ?_
  have hg0 : g.toNat ≠ 0 := fun e => hg (BitVec.eq_of_toNat_eq e)
  by_cases h255 : g.toNat = 255
  · have : g = 255#8 := BitVec.eq_of_toNat_eq h255
    subst this
    rw [ofBits_255]
    constructor
    · intro ht
      rcases h with ⟨rfl, -⟩ | ⟨-, -, -, h2⟩
      · exact absurd ht (by simp)
      · exact absurd (lt_of_le_of_lt ht h2) (not_lt.2 le_top)
    · intro hle; exfalso; rw [h255] at hle; split at hle <;> omega
  · rw [Scale.ofBits_shift g hg0 h255]
    rcases h with ⟨rfl, -⟩ | ⟨h0, -, h1, h2⟩
    · rw [if_pos rfl]
      constructor
      · intro hle
        have : (0 : ℝ) < (2 : ℝ) ^ ((g.toNat : ℤ) - 127) := by positivity
        exact absurd hle (not_le.2 (by exact_mod_cast this))
      · intro hle; omega
    · have hpos : 0 < t := lt_of_lt_of_le (by
        have : (0 : ℝ) < (2 : ℝ) ^ ((n : ℤ) - 128) := by positivity
        exact_mod_cast this) h1
      rw [if_neg hpos.ne']
      constructor
      · intro hle
        have := lt_of_le_of_lt hle h2
        rw [EReal.coe_lt_coe_iff, zpow_lt_zpow_iff_right₀ (one_lt_two : (1 : ℝ) < 2)] at this
        omega
      · intro hle
        refine le_trans ?_ h1
        rw [EReal.coe_le_coe_iff]
        exact zpow_le_zpow_right₀ one_lt_two.le (by omega)

theorem expo_byte : ∀ f : Fin 253, expo ((BitVec.ofNat 8 f.val).setWidth 32) + 127#32
    = BitVec.ofNat 32 (if f.val = 0 then 127 else f.val + 1) := by decide +kernel

/-- The kernel's biased exponent is the byte. -/
theorem expo_band {t : EReal} {n : ℕ} (h : Band t n) : IntOp.addi (expo (field t)) 127#32 = BitVec.ofNat 32 n := by
  have hn := h.le
  rw [field_band h]
  by_cases h0 : t = 0
  · rw [if_pos h0]
    rcases h with ⟨-, rfl⟩ | ⟨-, -, h1, -⟩
    · exact expo_byte ⟨0, by decide⟩
    · exfalso
      rw [h0] at h1
      have : (0 : ℝ) < (2 : ℝ) ^ ((n : ℤ) - 128) := by positivity
      exact absurd h1 (not_le.2 (by exact_mod_cast this))
  · rw [if_neg h0]
    refine (expo_byte ⟨n - 1, by omega⟩).trans ?_
    rw [if_neg (by show n - 1 ≠ 0; omega)]
    show BitVec.ofNat 32 (n - 1 + 1) = _
    rw [Nat.sub_add_cancel (by omega)]

theorem expo_val {t : EReal} {n : ℕ} (h : Band t n) : expo (field t) = BitVec.ofNat 32 n - 127#32 := by
  rw [← expo_band h]
  show _ = (expo (field t) + 127#32) - 127#32
  rw [BitVec.add_sub_cancel]

theorem flip_byte : ∀ n : Fin 254, 127#32 - (BitVec.ofNat 32 n.val - 127#32) = (BitVec.ofNat 8 (254 - n.val)).setWidth 32 := by
  decide +kernel

/-- The kernel's inverse scale. -/
def inverse (t : EReal) : EReal :=
  Ideal.ofBits .f32 (IntOp.shli .vector (IntOp.subi 127#32 (expo (field t))) 23#32)

theorem inverse_band {t : EReal} {n : ℕ} (h : Band t n) : inverse t = (((2 : ℝ) ^ (127 - (n : ℤ)) : ℝ) : EReal) := by
  have hn := h.le
  unfold inverse
  rw [shli_23, expo_val h]
  have e := flip_byte ⟨n, by omega⟩
  dsimp only at e
  show Ideal.ofBits .f32 ((127#32 - (BitVec.ofNat 32 n - 127#32)) <<< 23) = _
  have m1 : (BitVec.ofNat 8 (254 - n)).toNat = 254 - n := by rw [BitVec.toNat_ofNat]; exact Nat.mod_eq_of_lt (by omega)
  rw [e, Scale.ofBits_shift _ (by rw [m1]; omega) (by rw [m1]; omega), m1]
  refine congrArg _ (congrArg _ ?_)
  omega

/-- The scale byte the kernel writes. -/
def byte (t : EReal) : BitVec 8 :=
  (Ideal.fptosi 32 (((IntOp.addi (expo (field t)) 127#32).toInt : ℝ) : EReal)).setWidth 8

theorem fptosi_int (k : ℤ) (h1 : -(2 ^ 31) ≤ k) (h2 : k < 2 ^ 31) : Ideal.fptosi 32 ((k : ℝ) : EReal) = BitVec.ofInt 32 k := by
  unfold Ideal.fptosi
  refine congrArg _ ?_
  show max _ (min _ (if (0 : ℝ) ≤ (k : ℝ) then ⌊(k : ℝ)⌋ else ⌈(k : ℝ)⌉)) = k
  rw [Int.floor_intCast, Int.ceil_intCast, ite_self]
  push_cast
  omega

theorem byte_band {t : EReal} {n : ℕ} (h : Band t n) : byte t = BitVec.ofNat 8 n := by
  have hn := h.le
  unfold byte
  rw [expo_band h]
  have : (BitVec.ofNat 32 n).toInt = (n : ℤ) :=
    (by decide +kernel : ∀ n : Fin 254, (BitVec.ofNat 32 n.val).toInt = (n.val : ℤ)) ⟨n, by omega⟩
  rw [this, fptosi_int _ (by omega) (by omega)]
  apply BitVec.eq_of_toNat_eq
  simp

/-- The reference's exponent of a group whose largest entry is `a` and that over 448 is `t`. -/
def refExpo (a t : EReal) : EReal :=
  min ((127 : ℝ) : EReal) (max ((-127 : ℝ) : EReal)
    (Scalar.select (Ideal.cmp .oeq a 0) 0 (Ideal.liftRound Int.floor (Ideal.div (Ideal.log t) (Ideal.log ((2 : ℝ) : EReal))) + ((1 : ℝ) : EReal))))

theorem refExpo_band {a t : EReal} {n : ℕ} (ha : a = 0 ↔ t = 0) (h : Band t n) :
    refExpo a t = ((((n : ℤ) - 127 : ℤ) : ℝ) : EReal) := by
  have hn := h.le
  have key : Scalar.select (Ideal.cmp .oeq a 0) 0 (Ideal.liftRound Int.floor (Ideal.div (Ideal.log t) (Ideal.log ((2 : ℝ) : EReal))) + ((1 : ℝ) : EReal))
      = ((((n : ℤ) - 127 : ℤ) : ℝ) : EReal) := by
    rcases h with ⟨h0, rfl⟩ | ⟨-, -, h1, h2⟩
    · have : Ideal.cmp .oeq a 0 = 1#1 := by unfold Ideal.cmp; simp only [decide_eq_true (ha.2 h0)]; rfl
      rw [this]
      show (0 : EReal) = _
      norm_num
    · have hp : (0 : ℝ) < (2 : ℝ) ^ ((n : ℤ) - 128) := by positivity
      have hpos : 0 < t := lt_of_lt_of_le (by exact_mod_cast hp) h1
      have : Ideal.cmp .oeq a 0 = 0#1 := by
        unfold Ideal.cmp; simp only [decide_eq_false (fun e => hpos.ne' (ha.1 e))]; rfl
      rw [this]
      show Ideal.liftRound Int.floor (Ideal.div (Ideal.log t) (Ideal.log ((2 : ℝ) : EReal))) + ((1 : ℝ) : EReal) = _
      have ht : t ≠ ⊤ := fun e => by rw [e] at h2; exact absurd h2 (not_lt.2 le_top)
      lift t to ℝ using ⟨ht, fun e => by rw [e] at hpos; exact absurd hpos (by simp)⟩
      rw [EReal.coe_le_coe_iff] at h1
      rw [EReal.coe_lt_coe_iff] at h2
      have hr : 0 < t := lt_of_lt_of_le hp h1
      have l2 : (0 : ℝ) < Real.log 2 := Real.log_pos one_lt_two
      have e1 : Ideal.log (t : EReal) = (Real.log t : EReal) := by
        show (if t ≤ 0 then ⊥ else (Real.log t : EReal)) = _
        rw [if_neg (not_le.2 hr)]
      have e2 : Ideal.log ((2 : ℝ) : EReal) = (Real.log 2 : EReal) := by
        show (if (2 : ℝ) ≤ 0 then ⊥ else (Real.log 2 : EReal)) = _
        rw [if_neg (by norm_num)]
      rw [e1, e2]
      have e3 : Ideal.div (Real.log t : EReal) (Real.log 2 : EReal) = ((Real.log t / Real.log 2 : ℝ) : EReal) := by
        unfold Ideal.div
        rw [if_neg (by exact_mod_cast l2.ne'), ← EReal.coe_inv, ← EReal.coe_mul, div_eq_mul_inv]
      rw [e3]
      show ((⌊Real.log t / Real.log 2⌋ : ℝ) : EReal) + _ = _
      have e4 : ⌊Real.log t / Real.log 2⌋ = (n : ℤ) - 128 := by
        rw [Int.floor_eq_iff]
        constructor
        · rw [le_div_iff₀ l2, ← Real.log_zpow]
          exact Real.log_le_log hp h1
        · rw [div_lt_iff₀ l2]
          have : ((((n : ℤ) - 128 : ℤ) : ℝ) + 1) * Real.log 2 = Real.log ((2 : ℝ) ^ ((n : ℤ) - 127)) := by
            rw [Real.log_zpow]; push_cast; ring
          rw [this]
          exact Real.log_lt_log hr h2
      rw [e4, ← EReal.coe_add]
      refine congrArg _ ?_
      push_cast; ring
  unfold refExpo
  rw [key]
  rw [max_eq_right (by rw [EReal.coe_le_coe_iff]; have : (2 : ℝ) ≤ n := by exact_mod_cast hn.1
                       push_cast; linarith),
    min_eq_right (by rw [EReal.coe_le_coe_iff]; have : (n : ℝ) ≤ 253 := by exact_mod_cast hn.2
                     push_cast; linarith)]

/-- The reference's powers of two. -/
theorem pow_two (k : ℤ) : Ideal.pow ((2 : ℝ) : EReal) ((k : ℝ) : EReal) = (((2 : ℝ) ^ k : ℝ) : EReal) := by
  show ((Real.rpow 2 (k : ℝ) : ℝ) : EReal) = _
  refine congrArg _ ?_
  exact Real.rpow_intCast 2 k

/-- One over the inverse scale. -/
theorem div_inverse (k : ℤ) : Ideal.div 1 (((2 : ℝ) ^ k : ℝ) : EReal) = (((2 : ℝ) ^ (-k) : ℝ) : EReal) := by
  have : (0 : ℝ) < (2 : ℝ) ^ k := by positivity
  unfold Ideal.div
  rw [if_neg (by exact_mod_cast this.ne'), one_mul, ← EReal.coe_inv, zpow_neg]

/-- The byte the reference writes. -/
theorem ref_byte (n : ℕ) (h : n ≤ 253) :
    (IntOp.addi (Ideal.fptosi 32 ((((n : ℤ) - 127 : ℤ) : ℝ) : EReal)) 127#32).setWidth 8 = BitVec.ofNat 8 n := by
  rw [fptosi_int _ (by omega) (by omega)]
  have : ∀ n : Fin 254, (IntOp.addi (BitVec.ofInt 32 ((n.val : ℤ) - 127)) 127#32).setWidth 8 = BitVec.ofNat 8 n.val := by decide +kernel
  exact this ⟨n, by omega⟩

end Cert.Exponent

end
-- ==== Proof.QBlock.lean ====
/- What the quantiser writes out of one block, element by element: the scale byte of each group, the code of each entry
   and the value the code stands for. The two tables of zeros and ones only move a group's exponent to its place. -/
module

public import proofs.«01_k».proof.Proof.Amax
public import proofs.«01_k».proof.Proof.Exponent
public import Idealize.ShloMosaic.Lib.MatmulPlain

@[expose] public section

noncomputable section

open Idealize.ShloMosaic Idealize.ShloMosaic.TcCoe Idealize.SL.Sem Idealize.ShloMosaic.ValueIdx
open scoped BigOperators

namespace Cert.QuantiseIdeal.QBlock

open Cert.QuantiseIdeal Cert.QuantiseIdeal.Gen Cert.QuantiseIdeal.Amax Cert.Exponent

/-- The largest entry of a packed lane's group over 448. -/
def scl (x0 : Vec Ideal S256x4096 .bf16) (r : Fin 256) (l : Fin 128) : EReal :=
  (tr x0 (ix2 r l) : EReal) * Ideal.ofBits .f32 0x3B124925#32

/-- An entry's code, of the entry and its group's largest entry over 448. -/
def code (v t : EReal) : EReal :=
  min (Ideal.ofBits .f32 0x43E00000#32) (max (Ideal.ofBits .f32 0xC3E00000#32) (v * inverse t))

/-- The table that places scale bytes: packed lane `l` holds group `4 (l % 32) + l / 32` of the block. -/
def IsOrder (x2 : Vec Ideal S128x128 .bf16) : Prop :=
  ∀ l g : Fin 128, @Eq EReal (x2 (ix2 l g)) (if 4 * (l.val % 32) + l.val / 32 = g.val then 1 else 0)

/-- The table that spreads inverse scales: column `n` belongs to the group of packed lane `l`. -/
def IsExpand (x1 : Vec Ideal S128x4096 .bf16) : Prop :=
  ∀ (l : Fin 128) (n : Fin 4096), @Eq EReal (x1 (ix2 l n)) (if l.val % 32 = n.val / 128 ∧ l.val / 32 = n.val % 128 / 32 then 1 else 0)

/-- A product with a table column of one 1 picks that entry. -/
theorem pick {n : ℕ} (f : Fin n → EReal) (p : Fin n → Prop) [DecidablePred p] (k : Fin n) (h : ∀ l, p l ↔ l = k) :
    ∑ l, f l * (if p l then 1 else 0) = f k := by
  rw [Finset.sum_eq_single k]
  · rw [if_pos ((h k).2 rfl), mul_one]
  · intro l _ hl
    rw [if_neg fun hp => hl ((h l).1 hp), mul_zero]
  · intro hk; exact absurd (Finset.mem_univ k) hk

variable (x0 : Vec Ideal S256x4096 .bf16) (x1 : Vec Ideal S128x4096 .bf16) (x2 : Vec Ideal S128x128 .bf16)

/-- The vector of largest entries over 448, at a lane. -/
theorem pay86_apply (r : Fin 256) (l : Fin 128) : @Eq EReal (k0_pay86 x0 x1 x2 (ix2 r l)) (scl x0 r l) := by
  rw [scaled_eq]; rfl

/-- One step of the search over a vector. -/
def prb (w : FVec Ideal S256x128 .f32) (f : IVec S256x128 32) (b : BitVec 32) : IVec S256x128 32 :=
  select (cmpf .ole (bitcastToFloat .f32 (shli (ori f (broadcast S256x128 b)) (broadcast S256x128 23#32))) w)
    (ori f (broadcast S256x128 b)) f

theorem prb_apply (w : FVec Ideal S256x128 .f32) (f : IVec S256x128 32) (b : BitVec 32) (i : S256x128.Idx) :
    prb w f b i = probe (w i) (f i) b := rfl

/-- The upper half of the search over a vector. -/
def highs (w : FVec Ideal S256x128 .f32) : IVec S256x128 32 :=
  prb w (prb w (prb w (prb w (broadcast S256x128 0#32) 128#32) 64#32) 32#32) 16#32

theorem highs_apply (w : FVec Ideal S256x128 .f32) (i : S256x128.Idx) : highs w i = high (w i) := by
  unfold highs high
  rw [prb_apply, prb_apply, prb_apply, prb_apply]
  rfl

theorem pay66_eq (v0 : IVec S256x128 32) (a b : FVec Ideal S256x128 .bf16) (c : IVec S256x128 1) (d e : FVec Ideal S256x128 .bf16) :
    k0_pay66 v0 a b c d e = highs (k0_pay65 v0 a b c d e) := rfl

theorem pay67_eq (w : FVec Ideal S256x128 .f32) :
    k0_pay67 w (fun i => high (w i)) = fun i => expo (field (w i)) := rfl

theorem pay67_apply (r : Fin 256) (l : Fin 128) :
    k0_pay67 (k0_pay86 x0 x1 x2) (k0_pay87 x0 x1 x2) (ix2 r l) = expo (field (scl x0 r l)) := by
  have h : k0_pay87 x0 x1 x2 = fun i => high (k0_pay86 x0 x1 x2 i) := by
    unfold k0_pay87; rw [pay66_eq]; exact funext fun i => highs_apply _ i
  rw [h, pay67_eq, ← pay86_apply x0 x1 x2 r l]

theorem hz : (![0, 0] : Fin 2 → Nat) = fun _ => 0 := funext fun a => by fin_cases a <;> rfl

/-- The lane of a block's group. -/
abbrev laneOf (g : Fin 128) : Fin 128 := ⟨32 * (g.val % 4) + g.val / 4, by omega⟩
/-- The group, in the block, of a column. -/
abbrev groupOf (n : Fin 4096) : Fin 128 := ⟨n.val / 32, by omega⟩

/-- The scale bytes of a block. -/
theorem scales_apply (h : IsOrder x2) (r : Fin 256) (g : Fin 128) :
    out0_4 x0 x1 x2 (ix2 r g) = byte (scl x0 r (laneOf g)) := by
  unfold out0_4
  rw [View.canon_unit_zero hz, View.ld_unit_zero (S := S128x128) hz]
  unfold k0_pay70
  rw [shapeCast_self]
  have e : @Eq EReal (FloatOps.matmul (F := Ideal) (φ₁ := .bf16) (φ₂ := .bf16) (DotDims.plain 256 128 128) none
        (truncf .bf16 (sitofp (F := Ideal) .f32 (addi (k0_pay67 (k0_pay86 x0 x1 x2) (k0_pay87 x0 x1 x2)) (broadcast S256x128 127#32))) bitsLt_bf16_f32)
        x2 (constant S256x128 .f32 0x00000000#32) (ix2 r g))
      ((((IntOp.addi (expo (field (scl x0 r (laneOf g)))) 127#32).toInt : ℝ)) : EReal) := by
    rw [Ideal.matmul_plain_apply]
    rw [show (constant (F := Ideal) S256x128 .f32 0x00000000#32 (ix2 r g) : EReal) = 0 from Ideal.ofBits_zero_f32, zero_add]
    refine Eq.trans (Finset.sum_congr rfl fun l _ => congrArg (_ * ·) (h l g)) ?_
    refine Eq.trans (pick _ _ (laneOf g) fun l => ⟨fun hl => Fin.ext ?_, fun hl => ?_⟩) ?_
    · show l.val = 32 * (g.val % 4) + g.val / 4; omega
    · subst hl; show 4 * ((32 * (g.val % 4) + g.val / 4) % 32) + (32 * (g.val % 4) + g.val / 4) / 32 = g.val; omega
    · exact congrArg (fun b : BitVec 32 => (((IntOp.addi b 127#32).toInt : ℝ) : EReal)) (pay67_apply x0 x1 x2 r (laneOf g))
  exact congrArg (fun v : EReal => (Ideal.fptosi 32 v).setWidth 8) e

/-- The inverse scale spread over the columns. -/
theorem spread_apply (h : IsExpand x1) (r : Fin 256) (n : Fin 4096) :
    @Eq EReal (k0_pay71 (k0_pay88 x0 x1 x2) (k0_pay89 x0 x1 x2) x1 (ix2 r n)) (inverse (scl x0 r (laneOf (groupOf n)))) := by
  unfold k0_pay71
  rw [shapeCast_self]
  have e : @Eq EReal (FloatOps.matmul (F := Ideal) (φ₁ := .bf16) (φ₂ := .bf16) (DotDims.plain 256 128 4096) none
        (truncf .bf16 (bitcastToFloat (F := Ideal) .f32 (shli (k0_pay88 x0 x1 x2) (k0_pay89 x0 x1 x2))) bitsLt_bf16_f32)
        x1 (constant S256x4096 .f32 0x00000000#32) (ix2 r n))
      (inverse (scl x0 r (laneOf (groupOf n)))) := by
    rw [Ideal.matmul_plain_apply]
    rw [show (constant (F := Ideal) S256x4096 .f32 0x00000000#32 (ix2 r n) : EReal) = 0 from Ideal.ofBits_zero_f32, zero_add]
    refine Eq.trans (Finset.sum_congr rfl fun l _ => congrArg (_ * ·) (h l n)) ?_
    refine Eq.trans (pick _ _ (laneOf (groupOf n)) fun l => ⟨fun hl => Fin.ext ?_, fun hl => ?_⟩) ?_
    · show l.val = 32 * (n.val / 32 % 4) + n.val / 32 / 4; omega
    · subst hl
      show (32 * (n.val / 32 % 4) + n.val / 32 / 4) % 32 = n.val / 128 ∧ (32 * (n.val / 32 % 4) + n.val / 32 / 4) / 32 = n.val % 128 / 32
      have hn := n.isLt
      have h1 : n.val / 128 = n.val / 32 / 4 := by omega
      have h2 : n.val % 128 / 32 = n.val / 32 % 4 := by omega
      have h3 : n.val / 32 < 128 := by omega
      rw [h1, h2]
      generalize n.val / 32 = q at h3
      omega
    · exact congrArg (fun b : BitVec 32 => Ideal.ofBits .f32 (IntOp.shli .vector (IntOp.subi 127#32 b) 23#32)) (pay67_apply x0 x1 x2 r (laneOf (groupOf n)))
  exact e

/-- The codes of a block. -/
theorem codes_apply (h : IsExpand x1) (r : Fin 256) (n : Fin 4096) :
    @Eq EReal (out0_3 x0 x1 x2 (ix2 r n)) (code (x0 (ix2 r n)) (scl x0 r (laneOf (groupOf n)))) := by
  unfold out0_3
  rw [View.canon_unit_zero hz, View.ld_unit_zero (S := S128x4096) hz, View.ld_unit_zero (S := S256x4096) hz]
  unfold code
  rw [← spread_apply x0 x1 x2 h r n]
  rfl

/-- The values the codes stand for. -/
theorem values_apply (h : IsExpand x1) (r : Fin 256) (n : Fin 4096) :
    @Eq EReal (out0_5 x0 x1 x2 (ix2 r n))
      (code (x0 (ix2 r n)) (scl x0 r (laneOf (groupOf n))) * Ideal.div (Ideal.ofBits .bf16 0x3F80#16) (inverse (scl x0 r (laneOf (groupOf n))))) := by
  unfold out0_5
  rw [View.canon_unit_zero hz, View.ld_unit_zero (S := S128x4096) hz, View.ld_unit_zero (S := S256x4096) hz]
  unfold code
  rw [← spread_apply x0 x1 x2 h r n]
  rfl

end Cert.QuantiseIdeal.QBlock

end
-- ==== Proof.QTables.lean ====
/- The two tables of zeros and ones the host builds before the quantiser's call: one places each group's scale byte, the
   other spreads each group's inverse scale over its columns. Their entries, read off the operations that build them. -/
module

public import proofs.«01_k».proof.Proof.QBlock
public import proofs.«01_k».proof.Proof.Gen.QuantiseIdeal.Value

@[expose] public section

noncomputable section

open Idealize.ShloMosaic Idealize.ShloMosaic.TcCoe Idealize.SL.Sem Idealize.ShloMosaic.ValueIdx
open Idealize.ShloMosaic.StableHlo

namespace Cert.QuantiseIdeal.QTables

open Cert.QuantiseIdeal Cert.QuantiseIdeal.Gen Cert.QuantiseIdeal.QBlock

/-- The host's rounded-down quotient by a constant, operation for operation. -/
def quo {S : Shape} (h : S_.BroadcastsInDim S (![] : Fin 0 → Fin S.rank)) (x : IVec S 32) (d : IVec S_ 32) : IVec S 32 :=
  select (andi (cmpi .ne (signi x) (broadcastInDim S ![] h (signi d)))
      (cmpi .ne (Host.remsi x (broadcastInDim S ![] h d)) (broadcastInDim S ![] h (constantI S_ 32 0#32))))
    (subi (Host.divsi x (broadcastInDim S ![] h d)) (broadcastInDim S ![] h (constantI S_ 32 1#32)))
    (Host.divsi x (broadcastInDim S ![] h d))

/-- The host's remainder by a constant, operation for operation. -/
def rem {S : Shape} (h : S_.BroadcastsInDim S (![] : Fin 0 → Fin S.rank)) (x : IVec S 32) (d : IVec S_ 32) : IVec S 32 :=
  let e : IVec S_ 32 := select (cmpi .eq d (constantI S_ 32 0#32)) (constantI S_ 32 1#32) d
  select (andi (cmpi .ne (cmpi .slt (Host.remsi x (broadcastInDim S ![] h e)) (broadcastInDim S ![] h (constantI S_ 32 0#32)))
        (broadcastInDim S ![] h (cmpi .slt e (constantI S_ 32 0#32))))
      (cmpi .ne (Host.remsi x (broadcastInDim S ![] h e)) (broadcastInDim S ![] h (constantI S_ 32 0#32))))
    (addi (Host.remsi x (broadcastInDim S ![] h e)) (broadcastInDim S ![] h e))
    (Host.remsi x (broadcastInDim S ![] h e))

/-- Lane by lane: the position in its chunk's four and the chunk. -/
abbrev lanes : IVec S128 32 := iotaInDim S128 32 0
def laneJ : IVec S128 32 := quo bcast_S_S128 lanes (id (constantI S_ 32 32#32))
def laneC : IVec S128 32 := rem bcast_S_S128 lanes (id (constantI S_ 32 32#32))
/-- Column by column: the chunk and the position in the chunk's four. -/
abbrev cols : IVec S1x4096 32 := broadcastInDim S1x4096 ![1] bcast_S4096_S1x4096_1 (iotaInDim S4096 32 0)
def colC : IVec S1x4096 32 := quo bcast_S_S1x4096 cols (id (constantI S_ 32 128#32))
def colJ : IVec S1x4096 32 :=
  quo bcast_S_S1x4096 (rem bcast_S_S1x4096 cols (id (constantI S_ 32 128#32))) (id (constantI S_ 32 32#32))

/-- The spreading table. -/
def expandT : Vec Ideal S128x4096 .bf16 :=
  truncf .bf16 (uitofp (F := Ideal) .f32
    (andi (cmpi .eq (broadcastInDim S128x4096 ![0, 1] bcast_S128x1_S128x4096_0_1 (broadcastInDim S128x1 ![0] bcast_S128_S128x1_0 laneC))
        (broadcastInDim S128x4096 ![0, 1] bcast_S1x4096_S128x4096_0_1 colC))
      (cmpi .eq (broadcastInDim S128x4096 ![0, 1] bcast_S128x1_S128x4096_0_1 (broadcastInDim S128x1 ![0] bcast_S128_S128x1_0 laneJ))
        (broadcastInDim S128x4096 ![0, 1] bcast_S1x4096_S128x4096_0_1 colJ)))) bitsLt_bf16_f32

/-- The placing table. -/
def orderT : Vec Ideal S128x128 .bf16 :=
  truncf .bf16 (uitofp (F := Ideal) .f32
    (cmpi .eq (broadcastInDim S128x128 ![0, 1] bcast_S128x1_S128x128_0_1 (broadcastInDim S128x1 ![0] bcast_S128_S128x1_0
          (addi (muli (broadcastInDim S128 ![] bcast_S_S128 (constantI S_ 32 4#32)) laneC) laneJ)))
      (broadcastInDim S128x128 ![0, 1] bcast_S1x128_S128x128_0_1 (broadcastInDim S1x128 ![1] bcast_S128_S1x128_1 lanes)))) bitsLt_bf16_f32

variable (m : (ℓ : Loc nD τ sig) → Buf (Elt Ideal) ℓ) (c : Dev nD)

set_option maxRecDepth 8192 in
set_option maxHeartbeats 4000000 in
/-- What the call finds as its spreading table. -/
theorem V_expand : V m c main_v28 = expandT := by
  show StableHlo.after _ _ (Proc.devRef .tc main_v28) = _
  simp only [hostOps0, hostOps0_1, hostOps0_2, hostOps0_3, hostOps0_4, hostOps0_5, hostOps0_6, hostOps0_7, hostOps0_8, hostOps0_9, hostOps0_10, TRef.binary, TRef.unary, TRef.ternary, TRef.nullary, TRef.toBuf, TRef.ofBuf, cast_eq, List.flatten_cons, List.flatten_nil, List.append_nil, List.cons_append, List.nil_append]
  after_results_simp <;> rfl

set_option maxRecDepth 8192 in
set_option maxHeartbeats 4000000 in
/-- What the call finds as its placing table. -/
theorem V_order : V m c main_v29 = orderT := by
  show StableHlo.after _ _ (Proc.devRef .tc main_v29) = _
  simp only [hostOps0, hostOps0_1, hostOps0_2, hostOps0_3, hostOps0_4, hostOps0_5, hostOps0_6, hostOps0_7, hostOps0_8, hostOps0_9, hostOps0_10, TRef.binary, TRef.unary, TRef.ternary, TRef.nullary, TRef.toBuf, TRef.ofBuf, cast_eq, List.flatten_cons, List.flatten_nil, List.append_nil, List.cons_append, List.nil_append]
  after_results_simp <;> rfl

theorem laneJ_apply : ∀ l : Fin 128, laneJ (ix1 l) = BitVec.ofNat 32 (l.val / 32) := by decide +kernel
theorem laneC_apply : ∀ l : Fin 128, laneC (ix1 l) = BitVec.ofNat 32 (l.val % 32) := by decide +kernel
set_option maxRecDepth 100000 in
theorem colC_apply : ∀ n : Fin 4096, colC (ix2 (0 : Fin 1) n) = BitVec.ofNat 32 (n.val / 128) := by decide +kernel
set_option maxRecDepth 100000 in
theorem colJ_apply : ∀ n : Fin 4096, colJ (ix2 (0 : Fin 1) n) = BitVec.ofNat 32 (n.val % 128 / 32) := by decide +kernel

/-- A truth value as a number over the extended reals. -/
theorem bit_val (b : BitVec 1) : @Eq EReal (FloatOps.uitofp (F := Ideal) .f32 b) (if b = 1#1 then 1 else 0) := by
  show (((b.toNat : ℝ)) : EReal) = _
  rcases (by revert b; decide : b = 0#1 ∨ b = 1#1) with rfl | rfl
  · rw [if_neg (by decide)]; norm_num
  · rw [if_pos rfl]; norm_num

end Cert.QuantiseIdeal.QTables

end

end
-- ==== Proof.QEntries.lean ====
/- The entries of the quantiser's two tables: a one where the lane is the group's, a zero everywhere else. -/
module

public import proofs.«01_k».proof.Proof.QTables

@[expose] public section

noncomputable section

open Idealize.ShloMosaic Idealize.ShloMosaic.TcCoe Idealize.SL.Sem Idealize.ShloMosaic.ValueIdx

namespace Cert.QuantiseIdeal.QEntries

open Cert.QuantiseIdeal Cert.QuantiseIdeal.Gen Cert.QuantiseIdeal.QBlock Cert.QuantiseIdeal.QTables

theorem eq_bit (x y : BitVec 32) : IntOp.cmpi .eq x y = BitVec.ofBool (decide (x = y)) := by
  show BitVec.ofBool (x == y) = _
  exact congrArg BitVec.ofBool (by rw [Bool.eq_iff_iff]; simp)

theorem ofNat_eq {a b : ℕ} (ha : a < 4096) (hb : b < 4096) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

theorem ofBool_one (p : Prop) [Decidable p] : BitVec.ofBool (decide p) = 1#1 ↔ p := by
  by_cases h : p
  · simp [h]
  · simp [h]

/-- A packed lane's group of the block. -/
theorem lane_order : ∀ l : Fin 128, (addi (muli (broadcastInDim S128 ![] bcast_S_S128 (constantI S_ 32 4#32)) laneC) laneJ) (ix1 l)
    = BitVec.ofNat 32 (4 * (l.val % 32) + l.val / 32) := by decide +kernel

theorem bcol (v : IVec S128 32) (l g : Fin 128) :
    broadcastInDim S128x128 ![0, 1] bcast_S128x1_S128x128_0_1 (broadcastInDim S128x1 ![0] bcast_S128_S128x1_0 v) (ix2 l g) = v (ix1 l) := by
  rw [broadcastInDim_apply _ bcast_S128x1_S128x128_0_1 _ (ix2 l g) (ix2 l (0 : Fin 1)) (fun a => match a with
    | ⟨0, _⟩ => by show l.val = if (128 : Nat) = 1 then 0 else l.val; rw [if_neg (by decide)]
    | ⟨1, _⟩ => by show 0 = if (1 : Nat) = 1 then 0 else g.val; rw [if_pos rfl])]
  exact broadcastInDim_apply _ bcast_S128_S128x1_0 v (ix2 l (0 : Fin 1)) (ix1 l) (fun a => match a with
    | ⟨0, _⟩ => by show l.val = if (128 : Nat) = 1 then 0 else l.val; rw [if_neg (by decide)])

theorem brow (v : IVec S128 32) (l g : Fin 128) :
    broadcastInDim S128x128 ![0, 1] bcast_S1x128_S128x128_0_1 (broadcastInDim S1x128 ![1] bcast_S128_S1x128_1 v) (ix2 l g) = v (ix1 g) := by
  rw [broadcastInDim_apply _ bcast_S1x128_S128x128_0_1 _ (ix2 l g) (ix2 (0 : Fin 1) g) (fun a => match a with
    | ⟨0, _⟩ => by show 0 = if (1 : Nat) = 1 then 0 else l.val; rw [if_pos rfl]
    | ⟨1, _⟩ => by show g.val = if (128 : Nat) = 1 then 0 else g.val; rw [if_neg (by decide)])]
  exact broadcastInDim_apply _ bcast_S128_S1x128_1 v (ix2 (0 : Fin 1) g) (ix1 g) (fun a => match a with
    | ⟨0, _⟩ => by show g.val = if (128 : Nat) = 1 then 0 else g.val; rw [if_neg (by decide)])

theorem bcolw (v : IVec S128 32) (l : Fin 128) (n : Fin 4096) :
    broadcastInDim S128x4096 ![0, 1] bcast_S128x1_S128x4096_0_1 (broadcastInDim S128x1 ![0] bcast_S128_S128x1_0 v) (ix2 l n) = v (ix1 l) := by
  rw [broadcastInDim_apply _ bcast_S128x1_S128x4096_0_1 _ (ix2 l n) (ix2 l (0 : Fin 1)) (fun a => match a with
    | ⟨0, _⟩ => by show l.val = if (128 : Nat) = 1 then 0 else l.val; rw [if_neg (by decide)]
    | ⟨1, _⟩ => by show 0 = if (1 : Nat) = 1 then 0 else n.val; rw [if_pos rfl])]
  exact broadcastInDim_apply _ bcast_S128_S128x1_0 v (ix2 l (0 : Fin 1)) (ix1 l) (fun a => match a with
    | ⟨0, _⟩ => by show l.val = if (128 : Nat) = 1 then 0 else l.val; rw [if_neg (by decide)])

theorem broww (v : IVec S1x4096 32) (l : Fin 128) (n : Fin 4096) :
    broadcastInDim S128x4096 ![0, 1] bcast_S1x4096_S128x4096_0_1 v (ix2 l n) = v (ix2 (0 : Fin 1) n) :=
  broadcastInDim_apply _ bcast_S1x4096_S128x4096_0_1 _ (ix2 l n) (ix2 (0 : Fin 1) n) (fun a => match a with
    | ⟨0, _⟩ => by show 0 = if (1 : Nat) = 1 then 0 else l.val; rw [if_pos rfl]
    | ⟨1, _⟩ => by show n.val = if (4096 : Nat) = 1 then 0 else n.val; rw [if_neg (by decide)])

theorem and_one (p q : Prop) [Decidable p] [Decidable q] :
    IntOp.andi (BitVec.ofBool (decide p)) (BitVec.ofBool (decide q)) = 1#1 ↔ p ∧ q := by
  by_cases hp : p <;> by_cases hq : q <;> simp [hp, hq, IntOp.andi]

/-- Truth values made numbers, entry by entry. -/
theorem num_apply {S : Shape} (a : IVec S 1) (h : FTy.bf16.bits < FTy.f32.bits) (i : S.Idx) :
    @Eq EReal ((truncf .bf16 (uitofp (F := Ideal) .f32 a) h : FVec Ideal S .bf16) i) (if a i = 1#1 then 1 else 0) :=
  bit_val (a i)

theorem eq_apply {S : Shape} (a b : IVec S 32) (i : S.Idx) :
    cmpi .eq a b i = BitVec.ofBool (decide (a i = b i)) := eq_bit _ _

theorem and_apply {S : Shape} (a b : IVec S 1) (i : S.Idx) : andi a b i = IntOp.andi (a i) (b i) := rfl

theorem lanes_apply (g : Fin 128) : lanes (ix1 g) = BitVec.ofNat 32 g.val := rfl

theorem isOrder : IsOrder orderT := by
  intro l g
  unfold orderT
  refine (num_apply _ _ _).trans ?_
  rw [eq_apply, bcol, brow, lane_order, lanes_apply]
  exact if_congr ((ofBool_one _).trans (ofNat_eq (by omega) (by omega))) rfl rfl

theorem isExpand : IsExpand expandT := by
  intro l n
  unfold expandT
  refine (num_apply _ _ _).trans ?_
  rw [and_apply, eq_apply, eq_apply, bcolw, bcolw, broww, broww, laneC_apply, laneJ_apply, colC_apply, colJ_apply]
  exact if_congr ((and_one _ _).trans (and_congr (ofNat_eq (by omega) (by omega)) (ofNat_eq (by omega) (by omega)))) rfl rfl

end Cert.QuantiseIdeal.QEntries

end

end
-- ==== Proof.Largest.lean ====
/- The largest magnitude of a group of 32 numbers, over the extended reals. -/
module

public import Mathlib.Data.EReal.Basic
public import Mathlib.Data.EReal.Operations
public import Mathlib.Data.Finset.Lattice.Fold
public import Mathlib.Data.Fintype.Basic

@[expose] public section

noncomputable section

namespace Cert.Largest

/-- The largest of the 32 magnitudes. -/
def amax (f : Fin 32 → EReal) : EReal := Finset.univ.sup fun q => max (f q) (-f q)

theorem amax_le (f : Fin 32 → EReal) (z : EReal) : amax f ≤ z ↔ ∀ q, max (f q) (-f q) ≤ z := by
  unfold amax
  rw [Finset.sup_le_iff]
  exact ⟨fun h q => h q (Finset.mem_univ q), fun h q _ => h q⟩

end Cert.Largest

end

end
-- ==== Proof.QArray.lean ====
/- What the quantiser's three result arrays end holding, element by element: every element is written at one grid point,
   out of that point's block of the input. -/
module

public import proofs.«01_k».proof.Proof.QEntries
public import proofs.«01_k».proof.Proof.Largest

@[expose] public section

noncomputable section

open Idealize.ShloMosaic Idealize.ShloMosaic.TcCoe Idealize.SL.Sem Idealize.ShloMosaic.ValueIdx

namespace Cert.QuantiseIdeal.QArray

open Cert.QuantiseIdeal Cert.QuantiseIdeal.Gen Cert.QuantiseIdeal.QBlock Cert.QuantiseIdeal.QTables Cert.QuantiseIdeal.QEntries
open Cert.QuantiseIdeal.Amax Cert.QuantiseIdeal.Value Cert.Exponent Cert.Largest

variable (m : (ℓ : Loc nD τ sig) → Buf (Elt Ideal) ℓ) (c : Dev nD)

/-- Which blocks a grid point reads and writes: row block `t / 4`, column block `t % 4`, and both tables whole. -/
theorem idx_in : ∀ t : Fin cfg0.N,
    win0_0.index t (0 : Fin 2) = t.val / 4 ∧ win0_0.index t (1 : Fin 2) = t.val % 4
    ∧ (∀ a, win0_1.index t a = 0) ∧ ∀ a, win0_2.index t a = 0 :=
  (by decide +kernel : ∀ t : Fin grid0.N, _)

theorem idx_out : ∀ t : Fin cfg0.N,
    win0_3.index t (0 : Fin 2) = t.val / 4 ∧ win0_3.index t (1 : Fin 2) = t.val % 4
    ∧ win0_4.index t (0 : Fin 2) = t.val / 4 ∧ win0_4.index t (1 : Fin 2) = t.val % 4
    ∧ win0_5.index t (0 : Fin 2) = t.val / 4 ∧ win0_5.index t (1 : Fin 2) = t.val % 4 :=
  (by decide +kernel : ∀ t : Fin grid0.N, _)

/-- The array the call reads. -/
abbrev X : Vec Ideal S6144x16384 .bf16 := m ((c : Thread nD τ).loc main_arg0)

theorem lt96 (t : Fin cfg0.N) : t.val < 96 := lt_of_lt_of_eq t.isLt N_0

/-- The blocks a grid point reads. -/
abbrev xb (t : Fin cfg0.N) : Vec Ideal S256x4096 .bf16 := iblk m c 0 t
abbrev eb (t : Fin cfg0.N) : Vec Ideal S128x4096 .bf16 := iblk m c 1 t
abbrev ob (t : Fin cfg0.N) : Vec Ideal S128x128 .bf16 := iblk m c 2 t

theorem blk0 (t : Fin cfg0.N) (r : Fin 256) (k : Fin 4096) :
    (xb m c t) (ix2 r k)
      = X m c (ix2 (⟨256 * (t.val / 4) + r.val, by have := lt96 t; omega⟩ : Fin 6144)
          (⟨4096 * (t.val % 4) + k.val, by omega⟩ : Fin 16384)) := by
  obtain ⟨e0, e1, -⟩ := idx_in t
  unfold xb iblk
  rw [View.read_apply]
  show V m c main_arg0 _ = _
  rw [V_main_arg0]
  show m (c.tc.loc main_arg0) _ = m (c.tc.loc main_arg0) _
  refine congrArg _ (funext fun a => Fin.ext ?_)
  match a with
  | ⟨0, _⟩ => show win0_0.index t 0 * 256 + 1 * r.val = 256 * (t.val / 4) + r.val; rw [e0]; omega
  | ⟨1, _⟩ => show win0_0.index t 1 * 4096 + 1 * k.val = 4096 * (t.val % 4) + k.val; rw [e1]; omega

theorem blk1 (t : Fin cfg0.N) : eb m c t = expandT := by
  have h := (idx_in t).2.2.1
  unfold eb iblk
  have hz' : (fun a => win0_1.index t a * main_v28.ty.shape.size a) = fun _ => 0 := funext fun a => by rw [h a]; exact Nat.zero_mul _
  exact (Memref.read_access_unit_zero (Elt Ideal) main_v28 hz' (fun a => by rw [congrFun hz' a]; simp) (V m c main_v28)).trans (V_expand m c)

theorem blk2 (t : Fin cfg0.N) : ob m c t = orderT := by
  have h := (idx_in t).2.2.2
  unfold ob iblk
  have hz' : (fun a => win0_2.index t a * main_v29.ty.shape.size a) = fun _ => 0 := funext fun a => by rw [h a]; exact Nat.zero_mul _
  exact (Memref.read_access_unit_zero (Elt Ideal) main_v29 hz' (fun a => by rw [congrFun hz' a]; simp) (V m c main_v29)).trans (V_order m c)

/-- The largest magnitude of group `g` of row `i` over 448. -/
def scaled (x : Vec Ideal S6144x16384 .bf16) (i : Fin 6144) (g : Fin 512) : EReal :=
  amax (fun q => x (ix2 i (⟨32 * g.val + q.val, by omega⟩ : Fin 16384))) * Ideal.ofBits .f32 0x3B124925#32

/-- A packed lane's number is its group's. -/
theorem scl_eq (t : Fin cfg0.N) (r : Fin 256) (g : Fin 128) :
    scl (xb m c t) r (laneOf g) = scaled (X m c) ⟨256 * (t.val / 4) + r.val, by have := lt96 t; omega⟩
      ⟨128 * (t.val % 4) + g.val, by omega⟩ := by
  unfold scl scaled
  refine congrArg (· * _) (eq_of_forall_ge_iff fun z => ?_)
  rw [tr_le, amax_le]
  have h1 : (laneOf g).val % 32 = g.val / 4 := by show (32 * (g.val % 4) + g.val / 4) % 32 = g.val / 4; omega
  have h2 : (laneOf g).val / 32 = g.val % 4 := by show (32 * (g.val % 4) + g.val / 4) / 32 = g.val % 4; omega
  have key : ∀ q : Fin 32, entry (xb m c t) r ((laneOf g).val % 32) (32 * ((laneOf g).val / 32) + q.val)
      = max (X m c (ix2 (⟨256 * (t.val / 4) + r.val, by have := lt96 t; omega⟩ : Fin 6144) (⟨32 * (128 * (t.val % 4) + g.val) + q.val, by omega⟩ : Fin 16384)) : EReal)
          (-(X m c (ix2 (⟨256 * (t.val / 4) + r.val, by have := lt96 t; omega⟩ : Fin 6144) (⟨32 * (128 * (t.val % 4) + g.val) + q.val, by omega⟩ : Fin 16384)) : EReal)) := by
    intro q
    have hlt : 128 * ((laneOf g).val % 32) + (32 * ((laneOf g).val / 32) + q.val) < 4096 := by rw [h1, h2]; omega
    unfold entry
    rw [dif_pos hlt, blk0]
    have e : (⟨4096 * (t.val % 4) + (128 * ((laneOf g).val % 32) + (32 * ((laneOf g).val / 32) + q.val)), by omega⟩ : Fin 16384)
        = ⟨32 * (128 * (t.val % 4) + g.val) + q.val, by omega⟩ := Fin.ext (by dsimp only; rw [h1, h2]; omega)
    rw [e]
  constructor
  · intro h q
    exact (key q) ▸ h q.val q.isLt
  · intro h q hq
    have := key ⟨q, hq⟩
    dsimp only at this
    rw [this]
    exact h ⟨q, hq⟩

/-- The three result arrays after the last point. -/
abbrev C : Vec Ideal S6144x16384 .fp8e4m3 := (dats m 0 c).arrAt 3 cfg0.N
abbrev B : Vec Ideal S6144x512 .i8 := (dats m 0 c).arrAt 4 cfg0.N
abbrev D : Vec Ideal S6144x16384 .bf16 := (dats m 0 c).arrAt 5 cfg0.N

theorem at3 (t : Fin cfg0.N) (r : Fin 256) (n : Fin 4096) :
    C m c (ix2 (⟨256 * (t.val / 4) + r.val, by have := lt96 t; omega⟩ : Fin 6144) (⟨4096 * (t.val % 4) + n.val, by omega⟩ : Fin 16384))
      = out0_3 (xb m c t) (eb m c t) (ob m c t) (ix2 r n) := by
  obtain ⟨e0, e1, -⟩ := idx_out t
  have h := congrFun ((blocks3 m c t (flush0_3 t)).trans (flushed3 m c t)) (ix2 r n)
  rw [View.read_apply] at h
  refine Eq.trans (congrArg _ (funext fun a => Fin.ext ?_)) h
  match a with
  | ⟨0, _⟩ => show 256 * (t.val / 4) + r.val = win0_3.index t 0 * 256 + 1 * r.val; rw [e0]; omega
  | ⟨1, _⟩ => show 4096 * (t.val % 4) + n.val = win0_3.index t 1 * 4096 + 1 * n.val; rw [e1]; omega

theorem at4 (t : Fin cfg0.N) (r : Fin 256) (g : Fin 128) :
    B m c (ix2 (⟨256 * (t.val / 4) + r.val, by have := lt96 t; omega⟩ : Fin 6144) (⟨128 * (t.val % 4) + g.val, by omega⟩ : Fin 512))
      = out0_4 (xb m c t) (eb m c t) (ob m c t) (ix2 r g) := by
  obtain ⟨-, -, e0, e1, -⟩ := idx_out t
  have h := congrFun ((blocks4 m c t (flush0_4 t)).trans (flushed4 m c t)) (ix2 r g)
  rw [View.read_apply] at h
  refine Eq.trans (congrArg _ (funext fun a => Fin.ext ?_)) h
  match a with
  | ⟨0, _⟩ => show 256 * (t.val / 4) + r.val = win0_4.index t 0 * 256 + 1 * r.val; rw [e0]; omega
  | ⟨1, _⟩ => show 128 * (t.val % 4) + g.val = win0_4.index t 1 * 128 + 1 * g.val; rw [e1]; omega

theorem at5 (t : Fin cfg0.N) (r : Fin 256) (n : Fin 4096) :
    D m c (ix2 (⟨256 * (t.val / 4) + r.val, by have := lt96 t; omega⟩ : Fin 6144) (⟨4096 * (t.val % 4) + n.val, by omega⟩ : Fin 16384))
      = out0_5 (xb m c t) (eb m c t) (ob m c t) (ix2 r n) := by
  obtain ⟨-, -, -, -, e0, e1⟩ := idx_out t
  have h := congrFun ((blocks5 m c t (flush0_5 t)).trans (flushed5 m c t)) (ix2 r n)
  rw [View.read_apply] at h
  refine Eq.trans (congrArg _ (funext fun a => Fin.ext ?_)) h
  match a with
  | ⟨0, _⟩ => show 256 * (t.val / 4) + r.val = win0_5.index t 0 * 256 + 1 * r.val; rw [e0]; omega
  | ⟨1, _⟩ => show 4096 * (t.val % 4) + n.val = win0_5.index t 1 * 4096 + 1 * n.val; rw [e1]; omega

/-- The point that writes a row and a column block. -/
theorem point (b : Fin 24) (q : Fin 4) : ∃ t : Fin cfg0.N, t.val / 4 = b.val ∧ t.val % 4 = q.val :=
  ⟨⟨4 * b.val + q.val, by rw [show cfg0.N = 96 from N_0]; omega⟩, by dsimp only; omega, by dsimp only; omega⟩

/-- An entry's place: its point, its row in the block, its column in the block. -/
theorem place (i : Fin 6144) (n : Fin 16384) : ∃ (t : Fin cfg0.N) (r : Fin 256) (k : Fin 4096),
    i = ⟨256 * (t.val / 4) + r.val, by have := lt96 t; omega⟩ ∧ n = ⟨4096 * (t.val % 4) + k.val, by omega⟩ := by
  obtain ⟨t, h0, h1⟩ := point ⟨i.val / 256, by omega⟩ ⟨n.val / 4096, by omega⟩
  dsimp only at h0 h1
  exact ⟨t, ⟨i.val % 256, by omega⟩, ⟨n.val % 4096, by omega⟩, Fin.ext (by dsimp only; rw [h0]; omega), Fin.ext (by dsimp only; rw [h1]; omega)⟩

theorem place4 (i : Fin 6144) (g : Fin 512) : ∃ (t : Fin cfg0.N) (r : Fin 256) (k : Fin 128),
    i = ⟨256 * (t.val / 4) + r.val, by have := lt96 t; omega⟩ ∧ g = ⟨128 * (t.val % 4) + k.val, by omega⟩ := by
  obtain ⟨t, h0, h1⟩ := point ⟨i.val / 256, by omega⟩ ⟨g.val / 128, by omega⟩
  dsimp only at h0 h1
  exact ⟨t, ⟨i.val % 256, by omega⟩, ⟨g.val % 128, by omega⟩, Fin.ext (by dsimp only; rw [h0]; omega), Fin.ext (by dsimp only; rw [h1]; omega)⟩

theorem scl_group (t : Fin cfg0.N) (r : Fin 256) (k : Fin 4096) (h : 4096 * (t.val % 4) + k.val < 16384) :
    scl (xb m c t) r (laneOf (groupOf k)) = scaled (X m c) ⟨256 * (t.val / 4) + r.val, by have := lt96 t; omega⟩
      ⟨(4096 * (t.val % 4) + k.val) / 32, by omega⟩ := by
  rw [scl_eq]
  exact congrArg _ (Fin.ext (by show 128 * (t.val % 4) + k.val / 32 = (4096 * (t.val % 4) + k.val) / 32; omega))

/-- A group's scale byte. -/
theorem B_apply (i : Fin 6144) (g : Fin 512) : B m c (ix2 i g) = byte (scaled (X m c) i g) := by
  obtain ⟨t, r, k, rfl, rfl⟩ := place4 i g
  rw [at4, ← scl_eq, blk2]
  exact scales_apply _ _ _ isOrder r k

/-- An entry's code. -/
theorem C_apply (i : Fin 6144) (n : Fin 16384) :
    @Eq EReal (C m c (ix2 i n)) (code (X m c (ix2 i n)) (scaled (X m c) i ⟨n.val / 32, by omega⟩)) := by
  obtain ⟨t, r, k, rfl, rfl⟩ := place i n
  rw [at3, ← scl_group m c t r k (by omega), ← blk0, blk1]
  exact codes_apply _ _ _ isExpand r k

/-- The value an entry's code stands for. -/
theorem D_apply (i : Fin 6144) (n : Fin 16384) :
    @Eq EReal (D m c (ix2 i n)) (code (X m c (ix2 i n)) (scaled (X m c) i ⟨n.val / 32, by omega⟩)
      * Ideal.div (Ideal.ofBits .bf16 0x3F80#16) (inverse (scaled (X m c) i ⟨n.val / 32, by omega⟩))) := by
  obtain ⟨t, r, k, rfl, rfl⟩ := place i n
  rw [at5, ← scl_group m c t r k (by omega), ← blk0, blk1]
  exact values_apply _ _ _ isExpand r k

end Cert.QuantiseIdeal.QArray

end

end
-- ==== Proof.QRegion.lean ====
/- The reference quantiser as composed operations: the exponents, the clipped scaled entries, and the reference's one
   call, which rounds them to fp8 codes and reads the codes back. -/
module

public import proofs.«01_k».proof.Proof.Gen.QuantiseRefIdeal.Read
public import Idealize.ShloMosaic.Lib.ValueIdx

@[expose] public section

noncomputable section

open Idealize.ShloMosaic Idealize.ShloMosaic.TcCoe Idealize.SL.Sem Idealize.ShloMosaic.ValueIdx
open Idealize.ShloMosaic.StableHlo

namespace Cert.QuantiseRefIdeal.QRegion

open Cert.QuantiseRefIdeal Cert.QuantiseRefIdeal.Gen Cert.QuantiseRefIdeal.Value Cert.QuantiseRefIdeal.Read

variable {F : FTy → Type} [FloatOps F]

/-- A number at every group. -/
abbrev splat (w : BitVec 32) : FVec F S6144x512x1 .f32 := broadcastInDim S6144x512x1 ![] bcast_S_S6144x512x1 (constant S_ .f32 w)

/-- The entries in groups of 32. -/
def grouped (x : Vec F S6144x16384 .bf16) : FVec F S6144x512x32 .f32 :=
  extf .f32 (shapeCast S6144x512x32 x shapeCasts_S6144x16384_S6144x512x32 : FVec F S6144x512x32 .bf16) bitsLt_bf16_f32

/-- Each group's largest magnitude. -/
def largest (x : Vec F S6144x16384 .bf16) : FVec F S6144x512x1 .f32 :=
  broadcastInDim S6144x512x1 ![0, 1] bcast_S6144x512_S6144x512x1_0_1
    (Host.reduce FloatOps.maximumf (Host.absf (grouped x)) (constant S_ .f32 0xFF800000#32) reducesTo_S6144x512x32_S6144x512_d2 h_S_ : FVec F S6144x512 .f32)

/-- The exponent of a group's scale, of the group's largest magnitude. -/
def expoOf (a : FVec F S6144x512x1 .f32) : FVec F S6144x512x1 .f32 :=
  minimumf (broadcastInDim S6144x512x1 ![] bcast_S_S6144x512x1 (id (constant S_ .f32 0x42FE0000#32)))
    (maximumf (broadcastInDim S6144x512x1 ![] bcast_S_S6144x512x1 (id (constant S_ .f32 0xC2FE0000#32)))
      (select (cmpf .oeq a (splat 0x00000000#32)) (splat 0x00000000#32)
        (addf (Host.floor (Host.divf (Host.log (mulf a (splat 0x3B124925#32))) (Host.log (splat 0x40000000#32)))) (splat 0x3F800000#32))))

/-- The entries times their inverse scales, clipped. -/
def clipped (x : Vec F S6144x16384 .bf16) : FVec F S6144x512x32 .f32 :=
  minimumf (broadcastInDim S6144x512x32 ![] bcast_S_S6144x512x32 (id (constant S_ .f32 0x43E00000#32)))
    (maximumf (broadcastInDim S6144x512x32 ![] bcast_S_S6144x512x32 (id (constant S_ .f32 0xC3E00000#32)))
      (mulf (grouped x) (broadcastInDim S6144x512x32 ![0, 1, 2] bcast_S6144x512x1_S6144x512x32_0_1_2
        (Host.powf (splat 0x40000000#32) (Host.negf (expoOf (largest x)))))))

/-- What the reference's call reads. -/
def flat (x : Vec F S6144x16384 .bf16) : FVec F S6144x16384 .f32 :=
  shapeCast S6144x16384 (clipped x) shapeCasts_S6144x512x32_S6144x16384

variable (m : (ℓ : Loc nD τ sig) → Buf (Elt F) ℓ) (c : Dev nD)

/-- The array the reference reads. -/
abbrev X : Vec F S6144x16384 .bf16 := m ((c.tc : Thread nD τ).loc main_arg0)

set_option maxRecDepth 8192 in
set_option maxHeartbeats 4000000 in
theorem V_flat : V m c main_v25 = flat (X m c) := by
  show StableHlo.after _ _ (Proc.devRef .tc main_v25) = _
  simp only [Gen.hostOps0, Gen.hostOps0_1, Gen.hostOps0_2, Gen.hostOps0_3, Gen.hostOps0_4, TRef.binary, TRef.unary, TRef.toBuf, TRef.ofBuf, cast_eq, List.flatten_cons, List.flatten_nil, List.append_nil, List.cons_append, List.nil_append]
  after_results_simp <;> rfl

theorem hz : (![0, 0] : Fin 2 → Nat) = fun _ => 0 := funext fun a => by fin_cases a <;> rfl

/-- The codes, and the codes read back. -/
abbrev codes (x : Vec F S6144x16384 .bf16) : Vec F S6144x16384 .fp8e4m3 := truncf .fp8e4m3 (flat x) bitsLt_fp8e4m3_f32
abbrev rounded (x : Vec F S6144x16384 .bf16) : Vec F S6144x16384 .f32 := extf .f32 (codes x : FVec F S6144x16384 .fp8e4m3) bitsLt_fp8e4m3_f32
abbrev codesB : Buf (Elt F) ((c.tc : Thread nD τ).loc main_v26_0) := codes (X m c)
abbrev roundedB : Buf (Elt F) ((c.tc : Thread nD τ).loc main_v26_1) := rounded (X m c)

theorem idx_zero : ∀ t : Fin cfg0.N, (∀ a, win0_0.index t a = 0) ∧ (∀ a, win0_1.index t a = 0) ∧ ∀ a, win0_2.index t a = 0 :=
  (by decide +kernel : ∀ t : Fin grid0.N, _)

theorem iblk_eq (t : Fin cfg0.N) : (iblk m c 0 t : Vec F S6144x16384 .f32) = flat (X m c) := by
  have h := (idx_zero t).1
  unfold iblk
  have hz' : (fun a => win0_0.index t a * main_v25.ty.shape.size a) = fun _ => 0 := funext fun a => by rw [h a]; exact Nat.zero_mul _
  exact (Memref.read_access_unit_zero (Elt F) main_v25 hz' (fun a => by rw [congrFun hz' a]; simp) (V m c main_v25)).trans (V_flat m c)

theorem flushed1 (t : Fin cfg0.N) (hf : (cfg0.win 1).flush t = true) :
    (dats m 0 c).flushed 1 t = ((cfg0.win 1).blk t).view.read (Elt F) (codesB m c) := by
  have h := (idx_zero t).2.1
  show (cfg0.win 1).cut (grid0.coords t) ((dats m 0 c).after 1 t) = _
  rw [after0_1, iblk_eq]
  unfold out0_1
  rw [View.canon_unit_zero hz]
  unfold k0_pay1
  rw [View.ld_unit_zero (S := S6144x16384) hz]
  have hz' : (fun a => win0_1.index t a * main_v26_0.ty.shape.size a) = fun _ => 0 := funext fun a => by rw [h a]; exact Nat.zero_mul _
  refine Eq.trans ?_ (Memref.read_access_unit_zero (Elt F) main_v26_0 hz' (fun a => by rw [congrFun hz' a]; simp) (codesB m c)).symm
  rw [shapeCast_self]
  rfl

theorem flushed2 (t : Fin cfg0.N) (hf : (cfg0.win 2).flush t = true) :
    (dats m 0 c).flushed 2 t = ((cfg0.win 2).blk t).view.read (Elt F) (roundedB m c) := by
  have h := (idx_zero t).2.2
  show (cfg0.win 2).cut (grid0.coords t) ((dats m 0 c).after 2 t) = _
  rw [after0_2, iblk_eq]
  unfold out0_2
  rw [View.canon_unit_zero hz]
  unfold k0_pay2 k0_pay1
  rw [View.ld_unit_zero (S := S6144x16384) hz]
  have hz' : (fun a => win0_2.index t a * main_v26_1.ty.shape.size a) = fun _ => 0 := funext fun a => by rw [h a]; exact Nat.zero_mul _
  refine Eq.trans ?_ (Memref.read_access_unit_zero (Elt F) main_v26_1 hz' (fun a => by rw [congrFun hz' a]; simp) (roundedB m c)).symm
  rw [shapeCast_self]
  rfl

theorem reg0_eq : reg_main_v26_0 m c = codesB m c := by
  unfold reg_main_v26_0
  have hN : 0 < cfg0.N := by decide
  refine (dats m 0 c).arrAt_eq_of_cover 1 (codesB m c) (flushed1 m c) fun i => ⟨⟨0, hN⟩, flush0_1 _, ?_⟩
  have h := (idx_zero ⟨0, hN⟩).2.1
  show i ∈ ((View.whole main_v26_0).slice (win0_1.rect ⟨0, hN⟩)).set
  rw [View.set_slice_whole, Rect.mem_set_unit]
  intro a
  have h0 : (i 0 : Nat) < 6144 := (i 0).isLt
  have h1 : (i 1 : Nat) < 16384 := (i 1).isLt
  match a with
  | ⟨0, _⟩ => show win0_1.index ⟨0, hN⟩ 0 * 6144 ≤ (i 0 : Nat) ∧ (i 0 : Nat) < win0_1.index ⟨0, hN⟩ 0 * 6144 + 6144
              rw [h 0]; omega
  | ⟨1, _⟩ => show win0_1.index ⟨0, hN⟩ 1 * 16384 ≤ (i 1 : Nat) ∧ (i 1 : Nat) < win0_1.index ⟨0, hN⟩ 1 * 16384 + 16384
              rw [h 1]; omega

theorem reg1_eq : reg_main_v26_1 m c = roundedB m c := by
  unfold reg_main_v26_1
  have hN : 0 < cfg0.N := by decide
  refine (dats m 0 c).arrAt_eq_of_cover 2 (roundedB m c) (flushed2 m c) fun i => ⟨⟨0, hN⟩, flush0_2 _, ?_⟩
  have h := (idx_zero ⟨0, hN⟩).2.2
  show i ∈ ((View.whole main_v26_1).slice (win0_2.rect ⟨0, hN⟩)).set
  rw [View.set_slice_whole, Rect.mem_set_unit]
  intro a
  have h0 : (i 0 : Nat) < 6144 := (i 0).isLt
  have h1 : (i 1 : Nat) < 16384 := (i 1).isLt
  match a with
  | ⟨0, _⟩ => show win0_2.index ⟨0, hN⟩ 0 * 6144 ≤ (i 0 : Nat) ∧ (i 0 : Nat) < win0_2.index ⟨0, hN⟩ 0 * 6144 + 6144
              rw [h 0]; omega
  | ⟨1, _⟩ => show win0_2.index ⟨0, hN⟩ 1 * 16384 ≤ (i 1 : Nat) ∧ (i 1 : Nat) < win0_2.index ⟨0, hN⟩ 1 * 16384 + 16384
              rw [h 1]; omega

/-- The scale bytes and the values the codes stand for. -/
abbrev bytes (x : Vec F S6144x16384 .bf16) : Vec F S6144x512 .i8 := val_main_v31 (F := F) (expoOf (largest x))
abbrev values (x : Vec F S6144x16384 .bf16) : Vec F S6144x16384 .bf16 := val_main_v37 (F := F) (rounded x) (expoOf (largest x)) (splat 0x40000000#32)

/-- The reference runs and ends with its three arrays. -/
theorem run (ρ : Dev nD → PrngReg) :
    θ_run defs (onTc (τ := τ) (main (F := F))) ⟨m, fun _ => 0, ρ⟩ fun r => ∀ c : Dev nD,
      r.2.mem ((c.tc : Thread nD τ).loc main_v26_0) = codes (X m c)
      ∧ r.2.mem ((c.tc : Thread nD τ).loc main_v31) = bytes (X m c)
      ∧ r.2.mem ((c.tc : Thread nD τ).loc main_v37) = values (X m c)
      ∧ r.2.mem ((c.tc : Thread nD τ).loc main_arg0) = m ((c.tc : Thread nD τ).loc main_arg0) :=
  (θ_run defs _ _).mono (fun _ h c => ⟨(h c).1.trans (reg0_eq m c), (h c).2.1.trans rfl,
    (h c).2.2.1.trans (by rw [reg1_eq]; rfl), (h c).2.2.2⟩) (Value.run m ρ)

end Cert.QuantiseRefIdeal.QRegion

end

end
-- ==== Proof.QRefValue.lean ====
/- The reference quantiser's three arrays over the extended reals, element by element. -/
module

public import proofs.«01_k».proof.Proof.QRegion
public import proofs.«01_k».proof.Proof.Exponent
public import proofs.«01_k».proof.Proof.Largest

@[expose] public section

noncomputable section

open Idealize.ShloMosaic Idealize.ShloMosaic.TcCoe Idealize.SL.Sem Idealize.ShloMosaic.ValueIdx

namespace Cert.QuantiseRefIdeal.QRefValue

open Cert.QuantiseRefIdeal Cert.QuantiseRefIdeal.Gen Cert.QuantiseRefIdeal.QRegion Cert.QuantiseRefIdeal.Read
open Cert.Exponent Cert.Largest

variable (x : Vec Ideal S6144x16384 .bf16)

/-- The largest magnitude of group `g` of row `i`. -/
def top (i : Fin 6144) (g : Fin 512) : EReal :=
  amax (fun q => x (ix2 i (⟨32 * g.val + q.val, by omega⟩ : Fin 16384)))

theorem grouped_apply (i : Fin 6144) (g : Fin 512) (q : Fin 32) :
    @Eq EReal (grouped x (ix3 i g q)) (x (ix2 i (⟨32 * g.val + q.val, by omega⟩ : Fin 16384))) := by
  show @Eq EReal (shapeCast S6144x512x32 x shapeCasts_S6144x16384_S6144x512x32 (ix3 i g q)) _
  exact shapeCast_apply (t := S6144x512x32) x shapeCasts_S6144x16384_S6144x512x32 (ix3 i g q) (ix2 i (⟨32 * g.val + q.val, by omega⟩ : Fin 16384))
    (by rewrite [Shape.rowMajor_val_two, Shape.rowMajor_val_three]; show i.val * 16384 + (32 * g.val + q.val) = (i.val * 512 + g.val) * 32 + q.val; omega)

theorem reduces : S6144x512x32.Reduces [2] S6144x512 := by decide +kernel

theorem bot_word : @Eq EReal (Ideal.ofBits .f32 0xFF800000#32) ⊥ := by
  simp [Ideal.ofBits, Ideal.ieee]

/-- The host's largest entry along the group. -/
theorem reduce_apply (v : FVec Ideal S6144x512x32 .f32) (i : Fin 6144) (g : Fin 512) (z : EReal) :
    (Host.reduce (FloatOps.maximumf (F := Ideal) (φ := .f32)) v (constant (F := Ideal) S_ .f32 0xFF800000#32) reducesTo_S6144x512x32_S6144x512_d2 h_S_ (ix2 i g) : EReal) ≤ z
      ↔ ∀ q : Fin 32, (v (ix3 i g q) : EReal) ≤ z := by
  rw [Host.reduce_eq_fold_single FloatOps.maximumf v _ reducesTo_S6144x512x32_S6144x512_d2 reduces h_S_]
  refine (Finset.fold_max_le (β := EReal) (f := v ∘ reduces.lift (ix2 i g)) (b := Ideal.ofBits .f32 0xFF800000#32) z).trans ?_
  rw [bot_word]
  have hl : ∀ q : Fin 32, reduces.lift (ix2 i g) q = ix3 i g q := fun q => by
    funext a; apply Fin.ext
    match a with
    | ⟨0, _⟩ => rfl
    | ⟨1, _⟩ => rfl
    | ⟨2, _⟩ => rfl
  constructor
  · intro h q
    have h3 : (v (reduces.lift (ix2 i g) q) : EReal) ≤ z := h.2 q (Finset.mem_univ _)
    rw [hl] at h3
    exact h3
  · intro h
    refine ⟨bot_le, fun q _ => ?_⟩
    show (v (reduces.lift (ix2 i g) q) : EReal) ≤ z
    exact (congrArg (fun j => (v j : EReal)) (hl q)).le.trans (h q)

/-- The host's largest magnitude of a group. -/
abbrev reduced : FVec Ideal S6144x512 .f32 :=
  Host.reduce FloatOps.maximumf (Host.absf (grouped x)) (constant S_ .f32 0xFF800000#32) reducesTo_S6144x512x32_S6144x512_d2 h_S_

theorem reduced_apply (i : Fin 6144) (g : Fin 512) : @Eq EReal (reduced x (ix2 i g)) (top x i g) := by
  refine eq_of_forall_ge_iff fun z => ?_
  rw [reduce_apply]
  unfold top
  rw [amax_le]
  refine forall_congr' fun q => ?_
  have : @Eq EReal (Host.absf (grouped x) (ix3 i g q)) (max (grouped x (ix3 i g q) : EReal) (-(grouped x (ix3 i g q) : EReal))) := rfl
  rw [this, grouped_apply]

theorem largest_apply (i : Fin 6144) (g : Fin 512) : @Eq EReal (largest x (ix3 i g (0 : Fin 1))) (top x i g) := by
  unfold largest
  rw [broadcastInDim_apply _ bcast_S6144x512_S6144x512x1_0_1 _ (ix3 i g (0 : Fin 1)) (ix2 i g) (fun a => match a with
    | ⟨0, _⟩ => by show i.val = if (6144 : Nat) = 1 then 0 else i.val; rw [if_neg (by decide)]
    | ⟨1, _⟩ => by show g.val = if (512 : Nat) = 1 then 0 else g.val; rw [if_neg (by decide)])]
  exact reduced_apply x i g

theorem minus_127 : Ideal.ofBits .f32 0xC2FE0000#32 = ((-127 : ℝ) : EReal) := by
  simp [Ideal.ofBits, Ideal.ieee, -EReal.coe_mul]; norm_num

theorem one_word : Ideal.ofBits .f32 0x3F800000#32 = ((1 : ℝ) : EReal) := by
  rw [Ideal.ofBits_one_f32]; norm_num

/-- The exponent of a group's scale, of the group's largest magnitude. -/
theorem expoOf_apply (a : FVec Ideal S6144x512x1 .f32) (k : S6144x512x1.Idx) :
    @Eq EReal (expoOf a k) (refExpo (a k) ((a k : EReal) * Ideal.ofBits .f32 0x3B124925#32)) := by
  unfold refExpo
  rw [← Scale.ofBits_127, ← minus_127, ← Scale.ofBits_two, ← one_word, ← Ideal.ofBits_zero_f32]
  rfl

/-- The exponent of the scale of group `g` of row `i`. -/
def ex (i : Fin 6144) (g : Fin 512) : EReal := refExpo (top x i g) (top x i g * Ideal.ofBits .f32 0x3B124925#32)

theorem ex_apply (i : Fin 6144) (g : Fin 512) : @Eq EReal (expoOf (largest x) (ix3 i g (0 : Fin 1))) (ex x i g) := by
  rw [expoOf_apply, largest_apply]
  rfl

theorem pow_apply (a b : FVec Ideal S6144x512x1 .f32) (k : S6144x512x1.Idx) : @Eq EReal (Host.powf a b k) (Ideal.pow (a k) (b k)) := rfl
theorem neg_apply (a : FVec Ideal S6144x512x1 .f32) (k : S6144x512x1.Idx) : @Eq EReal (Host.negf a k) (-(a k : EReal)) := rfl
theorem splat_two (k : S6144x512x1.Idx) : @Eq EReal (splat (F := Ideal) 0x40000000#32 k) ((2 : ℝ) : EReal) := Scale.ofBits_two
theorem mul_apply (a b : FVec Ideal S6144x512x32 .f32) (k : S6144x512x32.Idx) : @Eq EReal (mulf a b k) ((a k : EReal) * (b k : EReal)) := rfl
theorem clip_apply (a : FVec Ideal S6144x512x32 .f32) (k : S6144x512x32.Idx) :
    @Eq EReal (minimumf (broadcastInDim S6144x512x32 ![] bcast_S_S6144x512x32 (id (constant S_ .f32 0x43E00000#32)))
      (maximumf (broadcastInDim S6144x512x32 ![] bcast_S_S6144x512x32 (id (constant S_ .f32 0xC3E00000#32))) a) k)
      (min (Ideal.ofBits .f32 0x43E00000#32) (max (Ideal.ofBits .f32 0xC3E00000#32) (a k : EReal))) := rfl

/-- An entry times its inverse scale, clipped. -/
theorem clipped_apply (i : Fin 6144) (g : Fin 512) (q : Fin 32) :
    @Eq EReal (clipped x (ix3 i g q)) (min (Ideal.ofBits .f32 0x43E00000#32) (max (Ideal.ofBits .f32 0xC3E00000#32)
      ((x (ix2 i (⟨32 * g.val + q.val, by omega⟩ : Fin 16384)) : EReal) * Ideal.pow ((2 : ℝ) : EReal) (-(ex x i g))))) := by
  have e : @Eq EReal (broadcastInDim S6144x512x32 ![0, 1, 2] bcast_S6144x512x1_S6144x512x32_0_1_2
      (Host.powf (splat (F := Ideal) 0x40000000#32) (Host.negf (expoOf (largest x)))) (ix3 i g q)) (Ideal.pow ((2 : ℝ) : EReal) (-(ex x i g))) := by
    rw [broadcastInDim_apply _ bcast_S6144x512x1_S6144x512x32_0_1_2 _ (ix3 i g q) (ix3 i g (0 : Fin 1)) (fun a => match a with
      | ⟨0, _⟩ => by show i.val = if (6144 : Nat) = 1 then 0 else i.val; rw [if_neg (by decide)]
      | ⟨1, _⟩ => by show g.val = if (512 : Nat) = 1 then 0 else g.val; rw [if_neg (by decide)]
      | ⟨2, _⟩ => by show 0 = if (1 : Nat) = 1 then 0 else q.val; rw [if_pos rfl])]
    rw [pow_apply, neg_apply, ex_apply, splat_two]
  unfold clipped
  rw [clip_apply, mul_apply, e, grouped_apply]

/-- An entry's code. -/
theorem flat_apply (i : Fin 6144) (n : Fin 16384) :
    @Eq EReal (flat x (ix2 i n)) (min (Ideal.ofBits .f32 0x43E00000#32) (max (Ideal.ofBits .f32 0xC3E00000#32)
      ((x (ix2 i n) : EReal) * Ideal.pow ((2 : ℝ) : EReal) (-(ex x i ⟨n.val / 32, by omega⟩))))) := by
  unfold flat
  rw [shapeCast_apply (t := S6144x16384) (clipped x) shapeCasts_S6144x512x32_S6144x16384 (ix2 i n)
    (ix3 i (⟨n.val / 32, by omega⟩ : Fin 512) (⟨n.val % 32, by omega⟩ : Fin 32))
    (by rewrite [Shape.rowMajor_val_two, Shape.rowMajor_val_three]; show (i.val * 512 + n.val / 32) * 32 + n.val % 32 = i.val * 16384 + n.val; omega)]
  rw [clipped_apply]
  have : (⟨32 * (n.val / 32) + n.val % 32, by omega⟩ : Fin 16384) = n := Fin.ext (by dsimp only; omega)
  dsimp only
  rw [this]

theorem codes_apply (i : Fin 6144) (n : Fin 16384) : @Eq EReal (codes x (ix2 i n)) (flat x (ix2 i n)) := rfl
theorem rounded_apply (i : Fin 6144) (n : Fin 16384) : @Eq EReal (rounded x (ix2 i n)) (flat x (ix2 i n)) := rfl

/-- A group's scale byte. -/
theorem bytes_apply (i : Fin 6144) (g : Fin 512) :
    bytes x (ix2 i g) = (IntOp.addi (Ideal.fptosi 32 (ex x i g)) 127#32).setWidth 8 := by
  unfold bytes
  rw [val_main_v31_apply, val_main_v30_apply, val_main_v29_apply, val_main_v28_apply, val_main_c_apply, val_main_v27_apply]
  have e : idx_main_v30 (ix2 i g) = ix3 i g (0 : Fin 1) := by
    funext a; apply Fin.ext
    match a with
    | ⟨0, _⟩ => show (i.val * 512 + g.val) / 512 = i.val; omega
    | ⟨1, _⟩ => show (i.val * 512 + g.val) / 1 % 512 = g.val; omega
    | ⟨2, _⟩ => rfl
  rw [e, ← ex_apply]
  rfl

/-- The value an entry's code stands for. -/
theorem values_apply (i : Fin 6144) (n : Fin 16384) :
    @Eq EReal (values x (ix2 i n)) ((flat x (ix2 i n) : EReal) * Ideal.pow ((2 : ℝ) : EReal) (ex x i ⟨n.val / 32, by omega⟩)) := by
  unfold values
  rw [val_main_v37_apply, val_main_v36_apply, val_main_v35_apply, val_main_v34_apply, val_main_v33_apply, val_main_v32_apply]
  have e1 : idx_main_v32 (idx_main_v37 (ix2 i n)) = ix2 i n := by
    funext a; apply Fin.ext
    match a with
    | ⟨0, _⟩ => show (((i.val * 16384 + n.val) / 16384 * 512 + (i.val * 16384 + n.val) / 32 % 512) * 32 + (i.val * 16384 + n.val) % 32) / 16384 = i.val; omega
    | ⟨1, _⟩ => show (((i.val * 16384 + n.val) / 16384 * 512 + (i.val * 16384 + n.val) / 32 % 512) * 32 + (i.val * 16384 + n.val) % 32) % 16384 = n.val; omega
  have e2 : idx_main_v34 (idx_main_v37 (ix2 i n)) = ix3 i (⟨n.val / 32, by omega⟩ : Fin 512) (0 : Fin 1) := by
    funext a; apply Fin.ext
    match a with
    | ⟨0, _⟩ => show (i.val * 16384 + n.val) / 16384 = i.val; omega
    | ⟨1, _⟩ => show (i.val * 16384 + n.val) / 32 % 512 = n.val / 32; omega
    | ⟨2, _⟩ => rfl
  rw [e1, e2, ← ex_apply, ← Scale.ofBits_two, ← rounded_apply]
  rfl

end Cert.QuantiseRefIdeal.QRefValue

end

end
-- ==== Proof.QEquation.lean ====
/- The quantiser's three arrays equal the reference's: where every group's scale is a normal number or the group is all
   zero, the power of two the kernel builds from exponent bits is the reference's power of the rounded logarithm. -/
module

public import proofs.«01_k».proof.Proof.QArray
public import proofs.«01_k».proof.Proof.QRefValue
public import proofs.«01_k».proof.Proof.Gen.Pre_groups_normal
public import proofs.«01_k».proof.Defs

@[expose] public section

noncomputable section

open Idealize.ShloMosaic Idealize.ShloMosaic.TcCoe Idealize.SL.Sem Idealize.ShloMosaic.ValueIdx

namespace Cert.QEquation

open Cert.Exponent Cert.Largest
open Cert.QuantiseIdeal.QBlock (code)

/-- The constant one over 448 is not zero. -/
theorem step_ne : Ideal.ofBits .f32 0x3B124925#32 ≠ 0 := by
  have h : Ideal.ofBits .f32 0x3B124925#32 = ((9586981 * 2 ^ (-32 : ℤ) : ℝ) : EReal) := by
    simp [Ideal.ofBits, Ideal.ieee, -EReal.coe_mul]
  rw [h]
  intro h0
  have := EReal.coe_eq_zero.1 h0
  norm_num at this

theorem low_word : Ideal.ofBits .f32 0x00800000#32 = (((2 : ℝ) ^ (-126 : ℤ) : ℝ) : EReal) := by
  have := Scale.ofBits_shift 1#8 (by decide) (by decide)
  refine (congrArg (Ideal.ofBits .f32) (by decide)).trans (this.trans ?_)
  norm_num

theorem high_word : Ideal.ofBits .f32 0x7E800000#32 = (((2 : ℝ) ^ (126 : ℤ) : ℝ) : EReal) := by
  have := Scale.ofBits_shift 253#8 (by decide) (by decide)
  refine (congrArg (Ideal.ofBits .f32) (by decide)).trans (this.trans ?_)
  norm_num

/-- The precondition's test of one group. -/
def test (a : EReal) : BitVec 1 :=
  IntOp.ori (Ideal.cmp .oeq a (Ideal.ofBits .f32 0x00000000#32))
    (IntOp.andi (Ideal.cmp .oge (a * Ideal.ofBits .f32 0x3B124925#32) (Ideal.ofBits .f32 0x00800000#32))
      (Ideal.cmp .olt (a * Ideal.ofBits .f32 0x3B124925#32) (Ideal.ofBits .f32 0x7E800000#32)))

theorem zero_iff (a : EReal) : a = 0 ↔ a * Ideal.ofBits .f32 0x3B124925#32 = 0 := by
  rw [mul_eq_zero]
  exact ⟨Or.inl, fun h => h.resolve_right step_ne⟩

theorem test_bits (p q r : Prop) [Decidable p] [Decidable q] [Decidable r]
    (h : IntOp.ori (BitVec.ofBool (decide p)) (IntOp.andi (BitVec.ofBool (decide q)) (BitVec.ofBool (decide r))) = 1#1) :
    p ∨ (q ∧ r) := by
  by_cases hp : p <;> by_cases hq : q <;> by_cases hr : r <;> simp [IntOp.ori, IntOp.andi, hp, hq, hr] at h ⊢

theorem band_of_test (a : EReal) (h : test a = 1#1) : ∃ n, Band (a * Ideal.ofBits .f32 0x3B124925#32) n := by
  refine exists_band _ ?_
  unfold test at h
  rw [low_word, high_word, Ideal.ofBits_zero_f32] at h
  exact (test_bits (a = 0) _ _ h).imp (zero_iff a).1 id

/-- The three equations of a group, of its largest magnitude. -/
theorem inverse_eq (a : EReal) (n : ℕ) (h : Band (a * Ideal.ofBits .f32 0x3B124925#32) n) :
    inverse (a * Ideal.ofBits .f32 0x3B124925#32)
      = Ideal.pow ((2 : ℝ) : EReal) (-(refExpo a (a * Ideal.ofBits .f32 0x3B124925#32))) := by
  rw [inverse_band h, refExpo_band (zero_iff a) h, ← EReal.coe_neg]
  have e : (-(((n : ℤ) - 127 : ℤ) : ℝ)) = ((127 - (n : ℤ) : ℤ) : ℝ) := by push_cast; ring
  rw [e, pow_two]

theorem byte_eq (a : EReal) (n : ℕ) (h : Band (a * Ideal.ofBits .f32 0x3B124925#32) n) :
    byte (a * Ideal.ofBits .f32 0x3B124925#32)
      = (IntOp.addi (Ideal.fptosi 32 (refExpo a (a * Ideal.ofBits .f32 0x3B124925#32))) 127#32).setWidth 8 := by
  rw [byte_band h, refExpo_band (zero_iff a) h]
  exact (ref_byte n h.le.2).symm

theorem forward_eq (a : EReal) (n : ℕ) (h : Band (a * Ideal.ofBits .f32 0x3B124925#32) n) :
    Ideal.div (Ideal.ofBits .bf16 0x3F80#16) (inverse (a * Ideal.ofBits .f32 0x3B124925#32))
      = Ideal.pow ((2 : ℝ) : EReal) (refExpo a (a * Ideal.ofBits .f32 0x3B124925#32)) := by
  rw [inverse_band h, refExpo_band (zero_iff a) h, Ideal.ofBits_one_bf16, div_inverse, pow_two]
  refine congrArg _ (congrArg _ ?_)
  ring

section precondition

open Cert.Pre_groups_normal Cert.Pre_groups_normal.Facts

/-- The precondition's operations after the largest magnitudes. -/
def tests (a : FVec Ideal S6144x512 .f32) : IVec S6144x512 1 :=
  ori (cmpf .oeq a (broadcastInDim S6144x512 ![] bcast_S_S6144x512 (constant (F := Ideal) S_ .f32 0x00000000#32)))
    (andi (cmpf .oge (mulf a (broadcastInDim S6144x512 ![] bcast_S_S6144x512 (constant (F := Ideal) S_ .f32 0x3B124925#32)))
        (broadcastInDim S6144x512 ![] bcast_S_S6144x512 (constant (F := Ideal) S_ .f32 0x00800000#32)))
      (cmpf .olt (mulf a (broadcastInDim S6144x512 ![] bcast_S_S6144x512 (constant (F := Ideal) S_ .f32 0x3B124925#32)))
        (broadcastInDim S6144x512 ![] bcast_S_S6144x512 (constant (F := Ideal) S_ .f32 0x7E800000#32))))

theorem tests_apply (a : FVec Ideal S6144x512 .f32) (i : S6144x512.Idx) : tests a i = test (a i) := rfl

theorem fn_eq (x : FVec Ideal S6144x16384 .bf16) : fn x = tests (QuantiseRefIdeal.QRefValue.reduced x) := by
  unfold fn tests QuantiseRefIdeal.QRefValue.reduced QuantiseRefIdeal.QRegion.grouped
  dsimp only

end precondition

section

variable (m : (ℓ : Loc QuantiseIdeal.nD QuantiseIdeal.τ QuantiseIdeal.sig) → Buf (Elt Ideal) ℓ)
  (m' : (ℓ : Loc QuantiseRefIdeal.nD QuantiseRefIdeal.τ QuantiseRefIdeal.sig) → Buf (Elt Ideal) ℓ)
  (h : Pre_QuantiseIdeal_groups_normal m) (c : Dev QuantiseIdeal.nD)
  (h0 : QuantiseRefIdeal.QRegion.X m' c = QuantiseIdeal.QArray.X m c)

/-- The reference's largest magnitude of a group. -/
abbrev top (i : Fin 6144) (g : Fin 512) : EReal := QuantiseRefIdeal.QRefValue.top (QuantiseIdeal.QArray.X m c) i g

include h in
/-- What the precondition tests, group by group. -/
theorem pre_test (i : Fin 6144) (g : Fin 512) : test (top m c i g) = 1#1 := by
  have e : test (QuantiseRefIdeal.QRefValue.reduced (QuantiseIdeal.QArray.X m c) (ix2 i g)) = 1#1 :=
    (tests_apply _ _).symm.trans (congrFun ((fn_eq _).symm.trans (h c)) (ix2 i g))
  rw [QuantiseRefIdeal.QRefValue.reduced_apply] at e
  exact e

include h in
theorem pre_band (i : Fin 6144) (g : Fin 512) : ∃ n, Band (top m c i g * Ideal.ofBits .f32 0x3B124925#32) n :=
  band_of_test _ (pre_test m h c i g)

theorem scaled_top (i : Fin 6144) (g : Fin 512) :
    QuantiseIdeal.QArray.scaled (QuantiseIdeal.QArray.X m c) i g = top m c i g * Ideal.ofBits .f32 0x3B124925#32 := rfl

include h in
/-- A code of the kernel is the reference's. -/
theorem code_eq (i : Fin 6144) (n : Fin 16384) :
    code (QuantiseIdeal.QArray.X m c (ix2 i n)) (QuantiseIdeal.QArray.scaled (QuantiseIdeal.QArray.X m c) i ⟨n.val / 32, by omega⟩)
      = QuantiseRefIdeal.QRegion.flat (F := Ideal) (QuantiseIdeal.QArray.X m c) (ix2 i n) := by
  obtain ⟨k, hk⟩ := pre_band m h c i ⟨n.val / 32, by omega⟩
  refine Eq.trans ?_ (QuantiseRefIdeal.QRefValue.flat_apply _ i n).symm
  unfold code QuantiseRefIdeal.QRefValue.ex
  rw [scaled_top, inverse_eq _ k hk]

include h h0 in
theorem codes_eq : QuantiseRefIdeal.QRegion.codes (QuantiseRefIdeal.QRegion.X m' c) = QuantiseIdeal.QArray.C m c := by
  rw [h0]
  funext j
  obtain ⟨i, n, rfl⟩ : ∃ (i : Fin 6144) (n : Fin 16384), j = ix2 i n := ⟨j 0, j 1, eq_ix2 j⟩
  exact (QuantiseRefIdeal.QRefValue.codes_apply _ i n).trans ((code_eq m h c i n).symm.trans (QuantiseIdeal.QArray.C_apply m c i n).symm)

include h h0 in
theorem bytes_eq : QuantiseRefIdeal.QRegion.bytes (QuantiseRefIdeal.QRegion.X m' c) = QuantiseIdeal.QArray.B m c := by
  rw [h0]
  funext j
  obtain ⟨i, g, rfl⟩ : ∃ (i : Fin 6144) (g : Fin 512), j = ix2 i g := ⟨j 0, j 1, eq_ix2 j⟩
  obtain ⟨k, hk⟩ := pre_band m h c i g
  refine (QuantiseRefIdeal.QRefValue.bytes_apply _ i g).trans (Eq.trans ?_ (QuantiseIdeal.QArray.B_apply m c i g).symm)
  rw [scaled_top, byte_eq _ k hk]
  rfl

include h h0 in
theorem values_eq : QuantiseRefIdeal.QRegion.values (QuantiseRefIdeal.QRegion.X m' c) = QuantiseIdeal.QArray.D m c := by
  rw [h0]
  funext j
  obtain ⟨i, n, rfl⟩ : ∃ (i : Fin 6144) (n : Fin 16384), j = ix2 i n := ⟨j 0, j 1, eq_ix2 j⟩
  obtain ⟨k, hk⟩ := pre_band m h c i ⟨n.val / 32, by omega⟩
  refine (QuantiseRefIdeal.QRefValue.values_apply _ i n).trans (Eq.trans ?_ (QuantiseIdeal.QArray.D_apply m c i n).symm)
  rw [code_eq m h c i n, scaled_top, forward_eq _ k hk]
  rfl

end

end Cert.QEquation

end

end
-- ==== Proof.lean ====
module

public import proofs.«01_k».proof.Defs
public import proofs.«01_k».proof.Proof.Gen.Matmul
public import proofs.«01_k».proof.Proof.Gen.Matmul.Skeleton
public import proofs.«01_k».proof.Proof.Gen.Matmul.Launch
public import proofs.«01_k».proof.Proof.Gen.Matmul.Points
public import proofs.«01_k».proof.Proof.Gen.Matmul.Frame
public import proofs.«01_k».proof.Proof.Gen.MatmulIdeal
public import proofs.«01_k».proof.Proof.Gen.MatmulIdeal.Skeleton
public import proofs.«01_k».proof.Proof.Gen.MatmulIdeal.Launch
public import proofs.«01_k».proof.Proof.Gen.MatmulIdeal.Points
public import proofs.«01_k».proof.Proof.Gen.MatmulIdeal.Frame
public import proofs.«01_k».proof.Proof.Gen.MatmulRefIdeal
public import proofs.«01_k».proof.Proof.Gen.MatmulRefIdeal.Skeleton
public import proofs.«01_k».proof.Proof.Gen.MatmulRefIdeal.Launch
public import proofs.«01_k».proof.Proof.Gen.MatmulRefIdeal.Points
public import proofs.«01_k».proof.Proof.Gen.MatmulRefIdeal.Frame
public import proofs.«01_k».proof.Proof.Gen.MatmulIdeal.Value
public import proofs.«01_k».proof.Proof.Gen.MatmulRefIdeal.Run
public import proofs.«01_k».proof.Proof.Gen.MatmulRefIdeal.Read
public import proofs.«01_k».proof.Proof.Gen.Pre_scales_normal
public import proofs.«01_k».proof.Proof.Equation
public import proofs.«01_k».proof.Proof.Gen.Quantise
public import proofs.«01_k».proof.Proof.Gen.Quantise.Skeleton
public import proofs.«01_k».proof.Proof.Gen.Quantise.Launch
public import proofs.«01_k».proof.Proof.Gen.Quantise.Points
public import proofs.«01_k».proof.Proof.Gen.Quantise.Frame
public import proofs.«01_k».proof.Proof.Gen.QuantiseIdeal
public import proofs.«01_k».proof.Proof.Gen.QuantiseIdeal.Skeleton
public import proofs.«01_k».proof.Proof.Gen.QuantiseIdeal.Launch
public import proofs.«01_k».proof.Proof.Gen.QuantiseIdeal.Points
public import proofs.«01_k».proof.Proof.Gen.QuantiseIdeal.Frame
public import proofs.«01_k».proof.Proof.Gen.QuantiseIdeal.Value
public import proofs.«01_k».proof.Proof.Gen.QuantiseRefIdeal
public import proofs.«01_k».proof.Proof.Gen.QuantiseRefIdeal.Skeleton
public import proofs.«01_k».proof.Proof.Gen.QuantiseRefIdeal.Launch
public import proofs.«01_k».proof.Proof.Gen.QuantiseRefIdeal.Points
public import proofs.«01_k».proof.Proof.Gen.QuantiseRefIdeal.Frame
public import proofs.«01_k».proof.Proof.Gen.QuantiseRefIdeal.Run
public import proofs.«01_k».proof.Proof.Gen.QuantiseRefIdeal.Read
public import proofs.«01_k».proof.Proof.Gen.Pre_groups_normal
public import proofs.«01_k».proof.Proof.QEquation
public import Idealize.ShloMosaic.Adequacy
public import Idealize.ShloMosaic.Init

@[expose] public section

noncomputable section

namespace Cert.Proof

open Idealize.ShloMosaic Idealize.SL.Sem Cert.Matmul

/-- The matmul's result array is the reference's. -/
theorem matmul_algebraic : Cert.algebraic_MatmulIdeal_MatmulRefIdeal_pre_scales_normal := by
  intro m g m' g' hpre hargs
  refine ⟨fun c => MatmulIdeal.Value.G3 m c, MatmulIdeal.Value.run m g, ?_⟩
  exact (θ_run _ _ _).mono (fun _ h c => ⟨(h c).1.trans
    (Cert.Equation.results_eq m m' hpre c (hargs c).1 (hargs c).2.1 (hargs c).2.2), (h c).2⟩) (MatmulRefIdeal.RefValue.run m' g')

/-- The quantiser's three result arrays are the reference's. -/
theorem quantise_algebraic : Cert.algebraic_QuantiseIdeal_QuantiseRefIdeal_pre_groups_normal := by
  intro m g m' g' hpre hargs
  refine ⟨fun c => QuantiseIdeal.QArray.C m c, fun c => QuantiseIdeal.QArray.B m c, fun c => QuantiseIdeal.QArray.D m c,
    QuantiseIdeal.Value.run_blocks m g, ?_⟩
  exact (θ_run _ _ _).mono (fun _ h c => ⟨(h c).1.trans (Cert.QEquation.codes_eq m m' hpre c (hargs c)),
    (h c).2.1.trans (Cert.QEquation.bytes_eq m m' hpre c (hargs c)),
    (h c).2.2.1.trans (Cert.QEquation.values_eq m m' hpre c (hargs c)), (h c).2.2.2⟩) (QuantiseRefIdeal.QRegion.run m' g')

theorem claim : Cert.Claim := ⟨Cert.Matmul.Gen.facts, Cert.MatmulIdeal.Gen.facts, Cert.MatmulRefIdeal.Gen.facts,
  Cert.Quantise.Gen.facts, Cert.QuantiseIdeal.Gen.facts, Cert.QuantiseRefIdeal.Gen.facts,
  Cert.Pre_scales_normal.Gen.facts, Cert.Pre_groups_normal.Gen.facts,
  fun m ρ _ => Cert.Matmul.Gen.frame m ρ,
  fun m ρ _ => Cert.MatmulIdeal.Gen.frame m ρ,
  fun m ρ _ => Cert.MatmulIdeal.Gen.frame m ρ,
  fun m ρ _ => Cert.MatmulRefIdeal.Gen.frame m ρ,
  fun m ρ _ => Cert.MatmulRefIdeal.Gen.frame m ρ,
  fun m ρ _ => Cert.Quantise.Gen.frame m ρ,
  fun m ρ _ => Cert.QuantiseIdeal.Gen.frame m ρ,
  fun m ρ _ => Cert.QuantiseIdeal.Gen.frame m ρ,
  fun m ρ _ => Cert.QuantiseRefIdeal.Gen.frame m ρ,
  fun m ρ _ => Cert.QuantiseRefIdeal.Gen.frame m ρ,
  trivial,
  matmul_algebraic,
  trivial,
  quantise_algebraic⟩

end Cert.Proof

end
